-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def preserves_Attn_AttnIdeal : Prop :=
  IdealRules.named_const.Statement Cert.AttnIdeal.κ "neg" .f32 0xFF7F0000#32 ⊥

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v114) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)) →
    ∃ (v0 : (c : Dev Cert.TailIdeal.nD) → Buf (Elt Ideal) ((c.tc : Thread Cert.TailIdeal.nD Cert.TailIdeal.τ).loc Cert.TailIdeal.main_v0)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v62) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v24_0)) (v1 : (c : Dev Cert.InProjIdeal.nD) → Buf (Elt Ideal) ((c.tc : Thread Cert.InProjIdeal.nD Cert.InProjIdeal.τ).loc Cert.InProjIdeal.main_v24_1)) (v2 : (c : Dev Cert.InProjIdeal.nD) → Buf (Elt Ideal) ((c.tc : Thread Cert.InProjIdeal.nD Cert.InProjIdeal.τ).loc Cert.InProjIdeal.main_v24_2)) (v3 : (c : Dev Cert.InProjIdeal.nD) → Buf (Elt Ideal) ((c.tc : Thread Cert.InProjIdeal.nD Cert.InProjIdeal.τ).loc Cert.InProjIdeal.main_v24_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v24_0) = v0 c
          ∧ r.2.mem ((c.tc : Thread Cert.InProjIdeal.nD Cert.InProjIdeal.τ).loc Cert.InProjIdeal.main_v24_1) = v1 c
          ∧ r.2.mem ((c.tc : Thread Cert.InProjIdeal.nD Cert.InProjIdeal.τ).loc Cert.InProjIdeal.main_v24_2) = v2 c
          ∧ r.2.mem ((c.tc : Thread Cert.InProjIdeal.nD Cert.InProjIdeal.τ).loc Cert.InProjIdeal.main_v24_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v44) = v0 c
          ∧ r.2.mem ((c.tc : Thread Cert.InProjRefIdeal.nD Cert.InProjRefIdeal.τ).loc Cert.InProjRefIdeal.main_v63) = v1 c
          ∧ r.2.mem ((c.tc : Thread Cert.InProjRefIdeal.nD Cert.InProjRefIdeal.τ).loc Cert.InProjRefIdeal.main_v80) = v2 c
          ∧ r.2.mem ((c.tc : Thread Cert.InProjRefIdeal.nD Cert.InProjRefIdeal.τ).loc Cert.InProjRefIdeal.main_v81) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v247) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def Claim : Prop :=
  ∃ (hAttn : Cert.Attn.Facts) (hAttnIdeal : Cert.AttnIdeal.Facts) (hAttnRefIdeal : Cert.AttnRefIdeal.Facts) (hTail : Cert.Tail.Facts) (hTailIdeal : Cert.TailIdeal.Facts) (hTailRefIdeal : Cert.TailRefIdeal.Facts) (hInProj : Cert.InProj.Facts) (hInProjIdeal : Cert.InProjIdeal.Facts) (hInProjRefIdeal : Cert.InProjRefIdeal.Facts) (hConv : Cert.Conv.Facts) (hConvIdeal : Cert.ConvIdeal.Facts) (hConvRefIdeal : Cert.ConvRefIdeal.Facts) (hPre_finite_qk : Cert.Pre_finite_qk.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Tail (hTail := hTail)
    ∧ quiescent_TailIdeal (hTailIdeal := hTailIdeal)
    ∧ quiescent_TailRefIdeal (hTailRefIdeal := hTailRefIdeal)
    ∧ quiescent_InProj (hInProj := hInProj)
    ∧ quiescent_InProjIdeal (hInProjIdeal := hInProjIdeal)
    ∧ quiescent_InProjRefIdeal (hInProjRefIdeal := hInProjRefIdeal)
    ∧ quiescent_Conv (hConv := hConv)
    ∧ quiescent_ConvIdeal (hConvIdeal := hConvIdeal)
    ∧ quiescent_ConvRefIdeal (hConvRefIdeal := hConvRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Tail_TailIdeal
    ∧ algebraic_TailIdeal_TailRefIdeal (hTailIdeal := hTailIdeal) (hTailRefIdeal := hTailRefIdeal)
    ∧ preserves_InProj_InProjIdeal
    ∧ algebraic_InProjIdeal_InProjRefIdeal (hInProjIdeal := hInProjIdeal) (hInProjRefIdeal := hInProjRefIdeal)
    ∧ preserves_Conv_ConvIdeal
    ∧ algebraic_ConvIdeal_ConvRefIdeal (hConvIdeal := hConvIdeal) (hConvRefIdeal := hConvRefIdeal)
-- ==== Pre_finite_qk.lean ====
abbrev S16384x512 : Shape := ⟨2, ![16384, 512]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)

variable [Facts]

def fn {F : FTy → Type} [FloatOps F] (main_arg0 : FVec F S16384x512 .bf16) (main_arg1 : FVec F S16384x512 .bf16) (main_arg2 : FVec F S16384x512 .bf16) : IVec S16384x512 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : IVec S16384x512 1 := andi main_v3 main_v7
  main_v8
-- ==== Attn.lean ====
abbrev S16384x512 : Shape := ⟨2, ![16384, 512]⟩
abbrev S2048x128 : Shape := ⟨2, ![2048, 128]⟩
abbrev S1x128 : Shape := ⟨2, ![1, 128]⟩
abbrev S8x256x128 : Shape := ⟨3, ![8, 256, 128]⟩
abbrev S8x128 : Shape := ⟨2, ![8, 128]⟩
abbrev S256x256 : Shape := ⟨2, ![256, 256]⟩
abbrev S2048x8 : Shape := ⟨2, ![2048, 8]⟩
abbrev S256x128 : Shape := ⟨2, ![256, 128]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnIdeal.lean ====
variable {F : FTy → Type} [FloatOps F] [Named F]
def κ : String → Option EReal := fun
  | "neg" => some ⊥
  | _ => none
-- ==== AttnRefIdeal.lean ====
abbrev S16384x512 : Shape := ⟨2, ![16384, 512]⟩
abbrev S8x2048x8x64 : Shape := ⟨4, ![8, 2048, 8, 64]⟩
abbrev S8x8x2048x64 : Shape := ⟨4, ![8, 8, 2048, 64]⟩
abbrev S8x8x8x256x64 : Shape := ⟨5, ![8, 8, 8, 256, 64]⟩
abbrev S_ : Shape := ⟨0, ![]⟩
abbrev S8x8x8x64 : Shape := ⟨4, ![8, 8, 8, 64]⟩
abbrev S2048 : Shape := ⟨1, ![2048]⟩
abbrev S8x8x2048x8 : Shape := ⟨4, ![8, 8, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S8x8x2048x3 : Shape := ⟨4, ![8, 8, 2048, 3]⟩
abbrev S3 : Shape := ⟨1, ![3]⟩
abbrev S1x3 : Shape := ⟨2, ![1, 3]⟩
abbrev S2048x3 : Shape := ⟨2, ![2048, 3]⟩
abbrev S8x1x1x1 : Shape := ⟨4, ![8, 1, 1, 1]⟩
abbrev S1x8x1x1 : Shape := ⟨4, ![1, 8, 1, 1]⟩
abbrev S8x8x2048x3x1 : Shape := ⟨5, ![8, 8, 2048, 3, 1]⟩
abbrev S8x8x2048x3x3 : Shape := ⟨5, ![8, 8, 2048, 3, 3]⟩
abbrev S8x8x2048x3x256x64 : Shape := ⟨6, ![8, 8, 2048, 3, 256, 64]⟩
abbrev S8x8x2048x3x256 : Shape := ⟨5, ![8, 8, 2048, 3, 256]⟩
abbrev S2048x3x1 : Shape := ⟨3, ![2048, 3, 1]⟩
abbrev S8x8x2048x768 : Shape := ⟨4, ![8, 8, 2048, 768]⟩
abbrev S8x8x8x256x256 : Shape := ⟨5, ![8, 8, 8, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S8x8x2048x256 : Shape := ⟨4, ![8, 8, 2048, 256]⟩
abbrev S8x8x2048x1024 : Shape := ⟨4, ![8, 8, 2048, 1024]⟩
abbrev S8x8x2048 : Shape := ⟨3, ![8, 8, 2048]⟩
abbrev S8x8x2048x1 : Shape := ⟨4, ![8, 8, 2048, 1]⟩

abbrev nBuf : Space → Nat
  | .hbm => 166
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .f32⟩
  | 4 => ⟨S8x2048x8x64, .f32⟩
  | 5 => ⟨S8x8x2048x64, .f32⟩
  | 6 => ⟨S16384x512, .f32⟩
  | 7 => ⟨S8x2048x8x64, .f32⟩
  | 8 => ⟨S8x8x2048x64, .f32⟩
  | 9 => ⟨S16384x512, .f32⟩
  | 10 => ⟨S8x2048x8x64, .f32⟩
  | 11 => ⟨S8x8x2048x64, .f32⟩
  | 12 => ⟨S8x8x8x256x64, .f32⟩
  | 13 => ⟨S8x8x8x256x64, .f32⟩
  | 14 => ⟨S_, .f32⟩
  | 15 => ⟨S8x8x8x64, .f32⟩
  | 16 => ⟨S_, .f32⟩
  | 17 => ⟨S8x8x8x64, .f32⟩
  | 18 => ⟨S8x8x8x64, .f32⟩
  | 19 => ⟨S2048, .i32⟩
  | 20 => ⟨S_, .i32⟩
  | 21 => ⟨S_, .i32⟩
  | 22 => ⟨S2048, .i32⟩
  | 23 => ⟨S2048, .i32⟩
  | 24 => ⟨S2048, .i32⟩
  | 25 => ⟨S_, .i32⟩
  | 26 => ⟨S2048, .i32⟩
  | 27 => ⟨S2048, .i1⟩
  | 28 => ⟨S2048, .i32⟩
  | 29 => ⟨S2048, .i32⟩
  | 30 => ⟨S_, .i32⟩
  | 31 => ⟨S2048, .i32⟩
  | 32 => ⟨S2048, .i1⟩
  | 33 => ⟨S2048, .i1⟩
  | 34 => ⟨S_, .i32⟩
  | 35 => ⟨S2048, .i32⟩
  | 36 => ⟨S2048, .i32⟩
  | 37 => ⟨S2048, .i32⟩
  | 38 => ⟨S8x8x2048x8, .f32⟩
  | 39 => ⟨S8, .i32⟩
  | 40 => ⟨S1x8, .i32⟩
  | 41 => ⟨S2048x1, .i32⟩
  | 42 => ⟨S2048x8, .i32⟩
  | 43 => ⟨S2048x8, .i32⟩
  | 44 => ⟨S2048x8, .i1⟩
  | 45 => ⟨S_, .f32⟩
  | 46 => ⟨S_, .f32⟩
  | 47 => ⟨S8x8x2048x8, .i1⟩
  | 48 => ⟨S8x8x2048x8, .f32⟩
  | 49 => ⟨S8x8x2048x8, .f32⟩
  | 50 => ⟨S8x8x2048x3, .f32⟩
  | 51 => ⟨S8x8x2048x3, .i32⟩
  | 52 => ⟨S3, .i32⟩
  | 53 => ⟨S1x3, .i32⟩
  | 54 => ⟨S2048x1, .i32⟩
  | 55 => ⟨S2048x3, .i32⟩
  | 56 => ⟨S2048x3, .i32⟩
  | 57 => ⟨S2048x3, .i1⟩
  | 58 => ⟨S8, .i32⟩
  | 59 => ⟨S8x1x1x1, .i32⟩
  | 60 => ⟨S8, .i32⟩
  | 61 => ⟨S1x8x1x1, .i32⟩
  | 62 => ⟨S_, .i32⟩
  | 63 => ⟨S8x1x1x1, .i32⟩
  | 64 => ⟨S8x1x1x1, .i1⟩
  | 65 => ⟨S_, .i32⟩
  | 66 => ⟨S8x1x1x1, .i32⟩
  | 67 => ⟨S8x1x1x1, .i32⟩
  | 68 => ⟨S8x1x1x1, .i32⟩
  | 69 => ⟨S_, .i32⟩
  | 70 => ⟨S1x8x1x1, .i32⟩
  | 71 => ⟨S1x8x1x1, .i1⟩
  | 72 => ⟨S_, .i32⟩
  | 73 => ⟨S1x8x1x1, .i32⟩
  | 74 => ⟨S1x8x1x1, .i32⟩
  | 75 => ⟨S1x8x1x1, .i32⟩
  | 76 => ⟨S_, .i32⟩
  | 77 => ⟨S8x8x2048x3, .i32⟩
  | 78 => ⟨S8x8x2048x3, .i1⟩
  | 79 => ⟨S_, .i32⟩
  | 80 => ⟨S8x8x2048x3, .i32⟩
  | 81 => ⟨S8x8x2048x3, .i32⟩
  | 82 => ⟨S8x8x2048x3, .i32⟩
  | 83 => ⟨S8x8x2048x3, .i32⟩
  | 84 => ⟨S8x8x2048x3, .i32⟩
  | 85 => ⟨S8x8x2048x3x1, .i32⟩
  | 86 => ⟨S8x8x2048x3x1, .i32⟩
  | 87 => ⟨S8x8x2048x3x1, .i32⟩
  | 88 => ⟨S8x8x2048x3x3, .i32⟩
  | 89 => ⟨S8x8x2048x3x256x64, .f32⟩
  | 90 => ⟨S_, .i32⟩
  | 91 => ⟨S8x1x1x1, .i32⟩
  | 92 => ⟨S8x1x1x1, .i1⟩
  | 93 => ⟨S_, .i32⟩
  | 94 => ⟨S8x1x1x1, .i32⟩
  | 95 => ⟨S8x1x1x1, .i32⟩
  | 96 => ⟨S8x1x1x1, .i32⟩
  | 97 => ⟨S_, .i32⟩
  | 98 => ⟨S1x8x1x1, .i32⟩
  | 99 => ⟨S1x8x1x1, .i1⟩
  | 100 => ⟨S_, .i32⟩
  | 101 => ⟨S1x8x1x1, .i32⟩
  | 102 => ⟨S1x8x1x1, .i32⟩
  | 103 => ⟨S1x8x1x1, .i32⟩
  | 104 => ⟨S_, .i32⟩
  | 105 => ⟨S8x8x2048x3, .i32⟩
  | 106 => ⟨S8x8x2048x3, .i1⟩
  | 107 => ⟨S_, .i32⟩
  | 108 => ⟨S8x8x2048x3, .i32⟩
  | 109 => ⟨S8x8x2048x3, .i32⟩
  | 110 => ⟨S8x8x2048x3, .i32⟩
  | 111 => ⟨S8x8x2048x3, .i32⟩
  | 112 => ⟨S8x8x2048x3, .i32⟩
  | 113 => ⟨S8x8x2048x3x1, .i32⟩
  | 114 => ⟨S8x8x2048x3x1, .i32⟩
  | 115 => ⟨S8x8x2048x3x1, .i32⟩
  | 116 => ⟨S8x8x2048x3x3, .i32⟩
  | 117 => ⟨S8x8x2048x3x256x64, .f32⟩
  | 118 => ⟨S8x8x2048x3x256, .f32⟩
  | 119 => ⟨S2048x3x1, .i1⟩
  | 120 => ⟨S_, .f32⟩
  | 121 => ⟨S_, .f32⟩
  | 122 => ⟨S8x8x2048x3x256, .i1⟩
  | 123 => ⟨S8x8x2048x3x256, .f32⟩
  | 124 => ⟨S8x8x2048x3x256, .f32⟩
  | 125 => ⟨S8x8x2048x768, .f32⟩
  | 126 => ⟨S8x8x8x256x64, .f32⟩
  | 127 => ⟨S8x8x8x256x256, .f32⟩
  | _ => ⟨S16384x512, .bf16⟩

abbrev hbmTy0_1 (i : Nat) : BufTy := match i % 128 with
  | 0 => ⟨S256, .i32⟩
  | 1 => ⟨S1x256, .i32⟩
  | 2 => ⟨S256x1, .i32⟩
  | 3 => ⟨S256x256, .i32⟩
  | 4 => ⟨S256x256, .i32⟩
  | 5 => ⟨S256x256, .i1⟩
  | 6 => ⟨S_, .f32⟩
  | 7 => ⟨S_, .f32⟩
  | 8 => ⟨S8x8x8x256x256, .i1⟩
  | 9 => ⟨S8x8x8x256x256, .f32⟩
  | 10 => ⟨S8x8x8x256x256, .f32⟩
  | 11 => ⟨S8x8x2048x256, .f32⟩
  | 12 => ⟨S8x8x2048x1024, .f32⟩
  | 13 => ⟨S_, .f32⟩
  | 14 => ⟨S8x8x2048, .f32⟩
  | 15 => ⟨S_, .f32⟩
  | 16 => ⟨S8x8x2048, .f32⟩
  | 17 => ⟨S8x8x2048, .f32⟩
  | 18 => ⟨S8x8x2048x1, .f32⟩
  | 19 => ⟨S8x8x2048x1024, .f32⟩
  | 20 => ⟨S8x8x2048x1024, .f32⟩
  | 21 => ⟨S8x8x2048x1024, .f32⟩
  | 22 => ⟨S_, .f32⟩
  | 23 => ⟨S8x8x2048, .f32⟩
  | 24 => ⟨S8x8x2048x1, .f32⟩
  | 25 => ⟨S8x8x2048x1024, .f32⟩
  | 26 => ⟨S8x8x2048x1024, .f32⟩
  | 27 => ⟨S8x8x2048x768, .f32⟩
  | 28 => ⟨S8x8x2048x3x256, .f32⟩
  | 29 => ⟨S8x8x2048x256, .f32⟩
  | 30 => ⟨S8x8x8x256x256, .f32⟩
  | 31 => ⟨S8x8x2048x64, .f32⟩
  | 32 => ⟨S8x8x8x256x64, .f32⟩
  | 33 => ⟨S8x8x2048x64, .f32⟩
  | 34 => ⟨S8x8x2048x64, .f32⟩
  | 35 => ⟨S8x2048x8x64, .f32⟩
  | 36 => ⟨S16384x512, .f32⟩
  | 37 => ⟨S16384x512, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v23 : Ref sig .tc := ⟨.hbm, 49, rfl⟩
abbrev main_values : Ref sig .tc := ⟨.hbm, 50, rfl⟩
abbrev main_indices : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_2 : Ref sig .tc := ⟨.hbm, 62, rfl⟩
abbrev main_v34 : Ref sig .tc := ⟨.hbm, 63, rfl⟩
abbrev main_v35 : Ref sig .tc := ⟨.hbm, 64, rfl⟩
abbrev main_c_3 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_4 : Ref sig .tc := ⟨.hbm, 69, rfl⟩
abbrev main_v39 : Ref sig .tc := ⟨.hbm, 70, rfl⟩
abbrev main_v40 : Ref sig .tc := ⟨.hbm, 71, rfl⟩
abbrev main_c_5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_6 : Ref sig .tc := ⟨.hbm, 76, rfl⟩
abbrev main_v44 : Ref sig .tc := ⟨.hbm, 77, rfl⟩
abbrev main_v45 : Ref sig .tc := ⟨.hbm, 78, rfl⟩
abbrev main_c_7 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_8 : Ref sig .tc := ⟨.hbm, 90, rfl⟩
abbrev main_v56 : Ref sig .tc := ⟨.hbm, 91, rfl⟩
abbrev main_v57 : Ref sig .tc := ⟨.hbm, 92, rfl⟩
abbrev main_c_9 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_10 : Ref sig .tc := ⟨.hbm, 97, rfl⟩
abbrev main_v61 : Ref sig .tc := ⟨.hbm, 98, rfl⟩
abbrev main_v62 : Ref sig .tc := ⟨.hbm, 99, rfl⟩
abbrev main_c_11 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_12 : Ref sig .tc := ⟨.hbm, 104, rfl⟩
abbrev main_v66 : Ref sig .tc := ⟨.hbm, 105, rfl⟩
abbrev main_v67 : Ref sig .tc := ⟨.hbm, 106, rfl⟩
abbrev main_c_13 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_14 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_15 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_16 : Ref sig .tc := ⟨.hbm, 141, rfl⟩
abbrev main_v93 : Ref sig .tc := ⟨.hbm, 142, rfl⟩
abbrev main_cst_17 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_18 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩

abbrev nD : Nat := 1
abbrev τ : Topo := Topo.v7x

variable {F : FTy → Type} [FloatOps F]
-- ==== Tail.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S256x1024 : Shape := ⟨2, ![256, 1024]⟩
abbrev S256x512 : Shape := ⟨2, ![256, 512]⟩
abbrev S256x256 : Shape := ⟨2, ![256, 256]⟩
abbrev S512x1024 : Shape := ⟨2, ![512, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 13
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x256, .f32⟩
  | .hbm, ⟨4, _⟩ => ⟨S1024x1024, .bf16⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S1x1024, .f32⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x256, .f32⟩
  | .local _ .vmem, ⟨7, _⟩ => ⟨S256x256, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S1x1024, .f32⟩
  | .local _ .vmem, ⟨13, _⟩ => ⟨S1024x1024, .bf16⟩
  | .local _ .vmem, ⟨14, _⟩ => ⟨S256x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== TailRefIdeal.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x256, .f32⟩
  | .hbm, ⟨4, _⟩ => ⟨S1024x1024, .bf16⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S1x1024, .f32⟩
  | .hbm, ⟨12, _⟩ => ⟨S16384x512, .f32⟩
  | .hbm, ⟨13, _⟩ => ⟨S16384x512, .f32⟩
  | .hbm, ⟨14, _⟩ => ⟨S16384x1024, .f32⟩
  | .hbm, ⟨15, _⟩ => ⟨S1024x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1024x5632, .f32⟩
  | .hbm, ⟨34, _⟩ => ⟨S16384x5632, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S2816x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S1024x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S256x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x1, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== InProj.lean ====
abbrev S16384x1024 : Shape := ⟨2, ![16384, 1024]⟩
abbrev S16384x1 : Shape := ⟨2, ![16384, 1]⟩
abbrev S1x1024 : Shape := ⟨2, ![1, 1024]⟩
abbrev S1024x2560 : Shape := ⟨2, ![1024, 2560]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S16384x512 : Shape := ⟨2, ![16384, 512]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩
abbrev S512x2560 : Shape := ⟨2, ![512, 2560]⟩
abbrev S512x128 : Shape := ⟨2, ![512, 128]⟩

abbrev nBuf : Space → Nat
  | .hbm => 84
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1, .i32⟩
  | .hbm, ⟨2, _⟩ => ⟨S1x1024, .f32⟩
  | .hbm, ⟨3, _⟩ => ⟨S1024x2560, .bf16⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S128, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .i32⟩
  | .hbm, ⟨34, _⟩ => ⟨S_, .i1⟩
  | .hbm, ⟨35, _⟩ => ⟨S128, .i1⟩
  | .hbm, ⟨36, _⟩ => ⟨S128, .i1⟩
  | .hbm, ⟨37, _⟩ => ⟨S128, .i1⟩
  | .hbm, ⟨38, _⟩ => ⟨S128, .i32⟩
  | .hbm, ⟨39, _⟩ => ⟨S128, .i32⟩
  | .hbm, ⟨40, _⟩ => ⟨S128, .i32⟩
  | .hbm, ⟨41, _⟩ => ⟨S_, .i32⟩
  | .hbm, ⟨42, _⟩ => ⟨S128, .i32⟩
  | .hbm, ⟨43, _⟩ => ⟨S128, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S_, .i32⟩
  | .hbm, ⟨53, _⟩ => ⟨S128, .i32⟩
  | .hbm, ⟨54, _⟩ => ⟨S128, .i1⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S_, .i32⟩
  | .hbm, ⟨59, _⟩ => ⟨S_, .i1⟩
  | .hbm, ⟨60, _⟩ => ⟨S128, .i1⟩
  | .hbm, ⟨61, _⟩ => ⟨S128, .i1⟩
  | .hbm, ⟨62, _⟩ => ⟨S128, .i1⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S_, .i32⟩
  | .hbm, ⟨67, _⟩ => ⟨S128, .i32⟩
  | .hbm, ⟨68, _⟩ => ⟨S128, .i1⟩
  | .hbm, ⟨69, _⟩ => ⟨S_, .i32⟩
  | .hbm, ⟨70, _⟩ => ⟨S128, .i32⟩
  | .hbm, ⟨71, _⟩ => ⟨S128, .i32⟩
  | .hbm, ⟨72, _⟩ => ⟨S128, .i32⟩
  | .hbm, ⟨73, _⟩ => ⟨S128x1, .i32⟩
  | .hbm, ⟨74, _⟩ => ⟨S128, .f32⟩
  | .hbm, ⟨75, _⟩ => ⟨S_, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S16384x512, .f32⟩
  | .hbm, ⟨81, _⟩ => ⟨S16384x512, .bf16⟩
  | .hbm, ⟨82, _⟩ => ⟨S16384x512, .bf16⟩
  | .hbm, ⟨83, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S1x1024, .f32⟩
  | .local _ .vmem, ⟨6, _⟩ => ⟨S1024x2560, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v11 : Ref sig .tc := ⟨.hbm, 40, rfl⟩
abbrev main_c_3 : Ref sig .tc := ⟨.hbm, 41, rfl⟩
abbrev main_v12 : Ref sig .tc := ⟨.hbm, 42, rfl⟩
abbrev main_v13 : Ref sig .tc := ⟨.hbm, 43, rfl⟩
abbrev main_c_4 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v14 : Ref sig .tc := ⟨.hbm, 65, rfl⟩
abbrev main_c_5 : Ref sig .tc := ⟨.hbm, 66, rfl⟩
abbrev main_v15 : Ref sig .tc := ⟨.hbm, 67, rfl⟩
abbrev main_v16 : Ref sig .tc := ⟨.hbm, 68, rfl⟩
abbrev main_c_6 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_cst_7 : Ref sig .tc := ⟨.hbm, 75, rfl⟩
abbrev main_call2_v0 : Ref sig .tc := ⟨.hbm, 76, rfl⟩
abbrev main_call2_v1 : Ref sig .tc := ⟨.hbm, 77, rfl⟩
abbrev main_v22 : Ref sig .tc := ⟨.hbm, 78, rfl⟩
abbrev main_v23 : Ref sig .tc := ⟨.hbm, 79, rfl⟩
abbrev main_v24_0 : Ref sig .tc := ⟨.hbm, 80, rfl⟩
abbrev main_v24_1 : Ref sig .tc := ⟨.hbm, 81, rfl⟩
abbrev main_v24_2 : Ref sig .tc := ⟨.hbm, 82, rfl⟩
abbrev main_v24_3 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S16384x1024 : Shape := ⟨2, ![16384, 1024]⟩
abbrev S16384x1 : Shape := ⟨2, ![16384, 1]⟩
abbrev S1x1024 : Shape := ⟨2, ![1, 1024]⟩
abbrev S1024x2560 : Shape := ⟨2, ![1024, 2560]⟩
abbrev S_ : Shape := ⟨0, ![]⟩
abbrev S16384 : Shape := ⟨1, ![16384]⟩
abbrev S16384x2560 : Shape := ⟨2, ![16384, 2560]⟩
abbrev S16384x512 : Shape := ⟨2, ![16384, 512]⟩
abbrev S8 : Shape := ⟨1, ![8]⟩
abbrev S1x8 : Shape := ⟨2, ![1, 8]⟩
abbrev S16384x8 : Shape := ⟨2, ![16384, 8]⟩
abbrev S16384x1x8 : Shape := ⟨3, ![16384, 1, 8]⟩
abbrev S16384x8x64 : Shape := ⟨3, ![16384, 8, 64]⟩
abbrev S16384x8x8 : Shape := ⟨3, ![16384, 8, 8]⟩
abbrev S16384x8x48 : Shape := ⟨3, ![16384, 8, 48]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1, .i32⟩
  | .hbm, ⟨2, _⟩ => ⟨S1x1024, .f32⟩
  | .hbm, ⟨3, _⟩ => ⟨S1024x2560, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1024x2560, .f32⟩
  | .hbm, ⟨20, _⟩ => ⟨S16384x2560, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S16384x1, .f32⟩
  | .hbm, ⟨41, _⟩ => ⟨S1x8, .f32⟩
  | .hbm, ⟨42, _⟩ => ⟨S16384x8, .f32⟩
  | .hbm, ⟨43, _⟩ => ⟨S16384x8, .f32⟩
  | .hbm, ⟨44, _⟩ => ⟨S16384x8, .f32⟩
  | .hbm, ⟨45, _⟩ => ⟨S16384x8, .f32⟩
  | .hbm, ⟨46, _⟩ => ⟨S16384x1x8, .f32⟩
  | .hbm, ⟨47, _⟩ => ⟨S16384x8, .f32⟩
  | .hbm, ⟨48, _⟩ => ⟨S16384x1x8, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S_, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x8x64, .f32⟩
  | .hbm, ⟨59, _⟩ => ⟨S16384x8x8, .f32⟩
  | .hbm, ⟨60, _⟩ => ⟨S16384x8x8, .f32⟩
  | .hbm, ⟨61, _⟩ => ⟨S16384x8x48, .f32⟩
  | .hbm, ⟨62, _⟩ => ⟨S16384x8x8, .f32⟩
  | .hbm, ⟨63, _⟩ => ⟨S16384x8x8, .f32⟩
  | .hbm, ⟨64, _⟩ => ⟨S16384x8x8, .f32⟩
  | .hbm, ⟨65, _⟩ => ⟨S16384x8x8, .f32⟩
  | .hbm, ⟨66, _⟩ => ⟨S16384x8x8, .f32⟩
  | .hbm, ⟨67, _⟩ => ⟨S16384x8x8, .f32⟩
  | .hbm, ⟨68, _⟩ => ⟨S16384x8x8, .f32⟩
  | .hbm, ⟨69, _⟩ => ⟨S16384x8x8, .f32⟩
  | .hbm, ⟨70, _⟩ => ⟨S16384x8x8, .f32⟩
  | .hbm, ⟨71, _⟩ => ⟨S16384x8x8, .f32⟩
  | .hbm, ⟨72, _⟩ => ⟨S16384x8x64, .f32⟩
  | .hbm, ⟨73, _⟩ => ⟨S16384x512, .f32⟩
  | .hbm, ⟨74, _⟩ => ⟨S_, .f32⟩
  | .hbm, ⟨75, _⟩ => ⟨S16384x512, .f32⟩
  | .hbm, ⟨76, _⟩ => ⟨S16384x512, .f32⟩
  | .hbm, ⟨77, _⟩ => ⟨S16384x512, .bf16⟩
  | .hbm, ⟨78, _⟩ => ⟨S16384x8x64, .f32⟩
  | .hbm, ⟨79, _⟩ => ⟨S16384x8x8, .f32⟩
  | .hbm, ⟨80, _⟩ => ⟨S16384x8x8, .f32⟩
  | .hbm, ⟨81, _⟩ => ⟨S16384x8x48, .f32⟩
  | .hbm, ⟨82, _⟩ => ⟨S16384x8x8, .f32⟩
  | .hbm, ⟨83, _⟩ => ⟨S16384x8x8, .f32⟩
  | .hbm, ⟨84, _⟩ => ⟨S16384x8x8, .f32⟩
  | .hbm, ⟨85, _⟩ => ⟨S16384x8x8, .f32⟩
  | .hbm, ⟨86, _⟩ => ⟨S16384x8x8, .f32⟩
  | .hbm, ⟨87, _⟩ => ⟨S16384x8x8, .f32⟩
  | .hbm, ⟨88, _⟩ => ⟨S16384x8x8, .f32⟩
  | .hbm, ⟨89, _⟩ => ⟨S16384x8x8, .f32⟩
  | .hbm, ⟨90, _⟩ => ⟨S16384x8x8, .f32⟩
  | .hbm, ⟨91, _⟩ => ⟨S16384x8x8, .f32⟩
  | .hbm, ⟨92, _⟩ => ⟨S16384x8x64, .f32⟩
  | .hbm, ⟨93, _⟩ => ⟨S16384x512, .f32⟩
  | .hbm, ⟨94, _⟩ => ⟨S16384x512, .bf16⟩
  | .hbm, ⟨95, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩

abbrev nD : Nat := 1
abbrev τ : Topo := Topo.v7x

variable {F : FTy → Type} [FloatOps F]
-- ==== Conv.lean ====
abbrev S8x2048x512 : Shape := ⟨3, ![8, 2048, 512]⟩
abbrev S31x512 : Shape := ⟨2, ![31, 512]⟩
abbrev S1x512 : Shape := ⟨2, ![1, 512]⟩
abbrev S1x2048x512 : Shape := ⟨3, ![1, 2048, 512]⟩
abbrev S2080x512 : Shape := ⟨2, ![2080, 512]⟩
abbrev S32x512 : Shape := ⟨2, ![32, 512]⟩
abbrev S2048x512 : Shape := ⟨2, ![2048, 512]⟩
abbrev S96x512 : Shape := ⟨2, ![96, 512]⟩
abbrev S64x512 : Shape := ⟨2, ![64, 512]⟩
abbrev S88x512 : Shape := ⟨2, ![88, 512]⟩
abbrev S64 : Shape := ⟨1, ![64]⟩
abbrev S64x1 : Shape := ⟨2, ![64, 1]⟩
abbrev S1x64x512 : Shape := ⟨3, ![1, 64, 512]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x512, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S8x2048x512, .bf16⟩
  | .local _ .vmem, ⟨0, _⟩ => ⟨S1x2048x512, .f32⟩
  | .local _ .vmem, ⟨1, _⟩ => ⟨S1x2048x512, .f32⟩
  | .local _ .vmem, ⟨2, _⟩ => ⟨S31x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x2048x512, .bf16⟩
  | .local _ .vmem, ⟨7, _⟩ => ⟨S1x2048x512, .bf16⟩
  | .local _ .vmem, ⟨8, _⟩ => ⟨S2080x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v9 : BitVec 32 := Scalar.addi c0_i32 c32_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v10 : BitVec 32 := Scalar.muli arg8 c64_i32
  v10
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32 : BitVec 32 := 64#32
  let v10 : BitVec 32 := Scalar.muli arg8 c64_i32
  let v11 : BitVec 32 := v10
  let v12 : Index := Scalar.indexCast v11
  let c0_6 : Index := 0#32
  ![v12.toNat, 0]
def k0_off2 (k0_t1 : Fin k0_t1_loop.trips) : Fin 3 → Nat :=
  let c0_50 : Index := 0#32
  let c0_i32 : BitVec 32 := 0#32
  let c1_i32 : BitVec 32 := 1#32
  let arg8 : BitVec 32 := Scf.iv c0_i32 c1_i32 k0_t1
  let c64_i32 : BitVec 32 := 64#32
  let v10 : BitVec 32 := Scalar.muli arg8 c64_i32
  let v11 : BitVec 32 := v10
  let v204 : Index := Scalar.indexCast v11
  let c0_51 : Index := 0#32
  ![0, v204.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvRefIdeal.lean ====
abbrev S8x2048x512 : Shape := ⟨3, ![8, 2048, 512]⟩
abbrev S31x512 : Shape := ⟨2, ![31, 512]⟩
abbrev S1x512 : Shape := ⟨2, ![1, 512]⟩
abbrev S_ : Shape := ⟨0, ![]⟩
abbrev S8x2078x512 : Shape := ⟨3, ![8, 2078, 512]⟩
abbrev S512 : Shape := ⟨1, ![512]⟩
abbrev S1x1x512 : Shape := ⟨3, ![1, 1, 512]⟩
abbrev S8x2048 : Shape := ⟨2, ![8, 2048]⟩
abbrev S8x2048x1 : Shape := ⟨3, ![8, 2048, 1]⟩

abbrev nBuf : Space → Nat
  | .hbm => 269
  | .vmem => 0
  | .smem => 0
  | _ => 0

abbrev hbmTy0_0 (i : Nat) : BufTy := match i % 128 with
  | 0 => ⟨S8x2048x512, .f32⟩
  | 1 => ⟨S31x512, .f32⟩
  | 2 => ⟨S1x512, .f32⟩
  | 3 => ⟨S1x512, .f32⟩
  | 4 => ⟨S1x512, .f32⟩
  | 5 => ⟨S_, .i32⟩
  | 6 => ⟨S_, .f32⟩
  | 7 => ⟨S8x2078x512, .f32⟩
  | 8 => ⟨S8x2048x512, .f32⟩
  | 9 => ⟨S1x512, .f32⟩
  | 10 => ⟨S512, .f32⟩
  | 11 => ⟨S1x1x512, .f32⟩
  | 12 => ⟨S8x2048x512, .f32⟩
  | 13 => ⟨S8x2048x512, .f32⟩
  | 14 => ⟨S_, .f32⟩
  | 15 => ⟨S8x2048x512, .f32⟩
  | 16 => ⟨S8x2048x512, .f32⟩
  | 17 => ⟨S8x2048x512, .f32⟩
  | 18 => ⟨S1x512, .f32⟩
  | 19 => ⟨S512, .f32⟩
  | 20 => ⟨S1x1x512, .f32⟩
  | 21 => ⟨S8x2048x512, .f32⟩
  | 22 => ⟨S8x2048x512, .f32⟩
  | 23 => ⟨S8x2048x512, .f32⟩
  | 24 => ⟨S8x2048x512, .f32⟩
  | 25 => ⟨S1x512, .f32⟩
  | 26 => ⟨S512, .f32⟩
  | 27 => ⟨S1x1x512, .f32⟩
  | 28 => ⟨S8x2048x512, .f32⟩
  | 29 => ⟨S8x2048x512, .f32⟩
  | 30 => ⟨S8x2048x512, .f32⟩
  | 31 => ⟨S8x2048x512, .f32⟩
  | 32 => ⟨S1x512, .f32⟩
  | 33 => ⟨S512, .f32⟩
  | 34 => ⟨S1x1x512, .f32⟩
  | 35 => ⟨S8x2048x512, .f32⟩
  | 36 => ⟨S8x2048x512, .f32⟩
  | 37 => ⟨S8x2048x512, .f32⟩
  | 38 => ⟨S8x2048x512, .f32⟩
  | 39 => ⟨S1x512, .f32⟩
  | 40 => ⟨S512, .f32⟩
  | 41 => ⟨S1x1x512, .f32⟩
  | 42 => ⟨S8x2048x512, .f32⟩
  | 43 => ⟨S8x2048x512, .f32⟩
  | 44 => ⟨S8x2048x512, .f32⟩
  | 45 => ⟨S8x2048x512, .f32⟩
  | 46 => ⟨S1x512, .f32⟩
  | 47 => ⟨S512, .f32⟩
  | 48 => ⟨S1x1x512, .f32⟩
  | 49 => ⟨S8x2048x512, .f32⟩
  | 50 => ⟨S8x2048x512, .f32⟩
  | 51 => ⟨S8x2048x512, .f32⟩
  | 52 => ⟨S8x2048x512, .f32⟩
  | 53 => ⟨S1x512, .f32⟩
  | 54 => ⟨S512, .f32⟩
  | 55 => ⟨S1x1x512, .f32⟩
  | 56 => ⟨S8x2048x512, .f32⟩
  | 57 => ⟨S8x2048x512, .f32⟩
  | 58 => ⟨S8x2048x512, .f32⟩
  | 59 => ⟨S8x2048x512, .f32⟩
  | 60 => ⟨S1x512, .f32⟩
  | 61 => ⟨S512, .f32⟩
  | 62 => ⟨S1x1x512, .f32⟩
  | 63 => ⟨S8x2048x512, .f32⟩
  | 64 => ⟨S8x2048x512, .f32⟩
  | 65 => ⟨S8x2048x512, .f32⟩
  | 66 => ⟨S8x2048x512, .f32⟩
  | 67 => ⟨S1x512, .f32⟩
  | 68 => ⟨S512, .f32⟩
  | 69 => ⟨S1x1x512, .f32⟩
  | 70 => ⟨S8x2048x512, .f32⟩
  | 71 => ⟨S8x2048x512, .f32⟩
  | 72 => ⟨S8x2048x512, .f32⟩
  | 73 => ⟨S8x2048x512, .f32⟩
  | 74 => ⟨S1x512, .f32⟩
  | 75 => ⟨S512, .f32⟩
  | 76 => ⟨S1x1x512, .f32⟩
  | 77 => ⟨S8x2048x512, .f32⟩
  | 78 => ⟨S8x2048x512, .f32⟩
  | 79 => ⟨S8x2048x512, .f32⟩
  | 80 => ⟨S8x2048x512, .f32⟩
  | 81 => ⟨S1x512, .f32⟩
  | 82 => ⟨S512, .f32⟩
  | 83 => ⟨S1x1x512, .f32⟩
  | 84 => ⟨S8x2048x512, .f32⟩
  | 85 => ⟨S8x2048x512, .f32⟩
  | 86 => ⟨S8x2048x512, .f32⟩
  | 87 => ⟨S8x2048x512, .f32⟩
  | 88 => ⟨S1x512, .f32⟩
  | 89 => ⟨S512, .f32⟩
  | 90 => ⟨S1x1x512, .f32⟩
  | 91 => ⟨S8x2048x512, .f32⟩
  | 92 => ⟨S8x2048x512, .f32⟩
  | 93 => ⟨S8x2048x512, .f32⟩
  | 94 => ⟨S8x2048x512, .f32⟩
  | 95 => ⟨S1x512, .f32⟩
  | 96 => ⟨S512, .f32⟩
  | 97 => ⟨S1x1x512, .f32⟩
  | 98 => ⟨S8x2048x512, .f32⟩
  | 99 => ⟨S8x2048x512, .f32⟩
  | 100 => ⟨S8x2048x512, .f32⟩
  | 101 => ⟨S8x2048x512, .f32⟩
  | 102 => ⟨S1x512, .f32⟩
  | 103 => ⟨S512, .f32⟩
  | 104 => ⟨S1x1x512, .f32⟩
  | 105 => ⟨S8x2048x512, .f32⟩
  | 106 => ⟨S8x2048x512, .f32⟩
  | 107 => ⟨S8x2048x512, .f32⟩
  | 108 => ⟨S8x2048x512, .f32⟩
  | 109 => ⟨S1x512, .f32⟩
  | 110 => ⟨S512, .f32⟩
  | 111 => ⟨S1x1x512, .f32⟩
  | 112 => ⟨S8x2048x512, .f32⟩
  | 113 => ⟨S8x2048x512, .f32⟩
  | 114 => ⟨S8x2048x512, .f32⟩
  | 115 => ⟨S8x2048x512, .f32⟩
  | 116 => ⟨S1x512, .f32⟩
  | 117 => ⟨S512, .f32⟩
  | 118 => ⟨S1x1x512, .f32⟩
  | 119 => ⟨S8x2048x512, .f32⟩
  | 120 => ⟨S8x2048x512, .f32⟩
  | 121 => ⟨S8x2048x512, .f32⟩
  | 122 => ⟨S8x2048x512, .f32⟩
  | 123 => ⟨S1x512, .f32⟩
  | 124 => ⟨S512, .f32⟩
  | 125 => ⟨S1x1x512, .f32⟩
  | 126 => ⟨S8x2048x512, .f32⟩
  | 127 => ⟨S8x2048x512, .f32⟩
  | _ => ⟨S8x2048x512, .f32⟩

abbrev hbmTy0_1 (i : Nat) : BufTy := match i % 128 with
  | 0 => ⟨S8x2048x512, .f32⟩
  | 1 => ⟨S8x2048x512, .f32⟩
  | 2 => ⟨S1x512, .f32⟩
  | 3 => ⟨S512, .f32⟩
  | 4 => ⟨S1x1x512, .f32⟩
  | 5 => ⟨S8x2048x512, .f32⟩
  | 6 => ⟨S8x2048x512, .f32⟩
  | 7 => ⟨S8x2048x512, .f32⟩
  | 8 => ⟨S8x2048x512, .f32⟩
  | 9 => ⟨S1x512, .f32⟩
  | 10 => ⟨S512, .f32⟩
  | 11 => ⟨S1x1x512, .f32⟩
  | 12 => ⟨S8x2048x512, .f32⟩
  | 13 => ⟨S8x2048x512, .f32⟩
  | 14 => ⟨S8x2048x512, .f32⟩
  | 15 => ⟨S8x2048x512, .f32⟩
  | 16 => ⟨S1x512, .f32⟩
  | 17 => ⟨S512, .f32⟩
  | 18 => ⟨S1x1x512, .f32⟩
  | 19 => ⟨S8x2048x512, .f32⟩
  | 20 => ⟨S8x2048x512, .f32⟩
  | 21 => ⟨S8x2048x512, .f32⟩
  | 22 => ⟨S8x2048x512, .f32⟩
  | 23 => ⟨S1x512, .f32⟩
  | 24 => ⟨S512, .f32⟩
  | 25 => ⟨S1x1x512, .f32⟩
  | 26 => ⟨S8x2048x512, .f32⟩
  | 27 => ⟨S8x2048x512, .f32⟩
  | 28 => ⟨S8x2048x512, .f32⟩
  | 29 => ⟨S8x2048x512, .f32⟩
  | 30 => ⟨S1x512, .f32⟩
  | 31 => ⟨S512, .f32⟩
  | 32 => ⟨S1x1x512, .f32⟩
  | 33 => ⟨S8x2048x512, .f32⟩
  | 34 => ⟨S8x2048x512, .f32⟩
  | 35 => ⟨S8x2048x512, .f32⟩
  | 36 => ⟨S8x2048x512, .f32⟩
  | 37 => ⟨S1x512, .f32⟩
  | 38 => ⟨S512, .f32⟩
  | 39 => ⟨S1x1x512, .f32⟩
  | 40 => ⟨S8x2048x512, .f32⟩
  | 41 => ⟨S8x2048x512, .f32⟩
  | 42 => ⟨S8x2048x512, .f32⟩
  | 43 => ⟨S8x2048x512, .f32⟩
  | 44 => ⟨S1x512, .f32⟩
  | 45 => ⟨S512, .f32⟩
  | 46 => ⟨S1x1x512, .f32⟩
  | 47 => ⟨S8x2048x512, .f32⟩
  | 48 => ⟨S8x2048x512, .f32⟩
  | 49 => ⟨S8x2048x512, .f32⟩
  | 50 => ⟨S8x2048x512, .f32⟩
  | 51 => ⟨S1x512, .f32⟩
  | 52 => ⟨S512, .f32⟩
  | 53 => ⟨S1x1x512, .f32⟩
  | 54 => ⟨S8x2048x512, .f32⟩
  | 55 => ⟨S8x2048x512, .f32⟩
  | 56 => ⟨S8x2048x512, .f32⟩
  | 57 => ⟨S8x2048x512, .f32⟩
  | 58 => ⟨S1x512, .f32⟩
  | 59 => ⟨S512, .f32⟩
  | 60 => ⟨S1x1x512, .f32⟩
  | 61 => ⟨S8x2048x512, .f32⟩
  | 62 => ⟨S8x2048x512, .f32⟩
  | 63 => ⟨S8x2048x512, .f32⟩
  | 64 => ⟨S8x2048x512, .f32⟩
  | 65 => ⟨S1x512, .f32⟩
  | 66 => ⟨S512, .f32⟩
  | 67 => ⟨S1x1x512, .f32⟩
  | 68 => ⟨S8x2048x512, .f32⟩
  | 69 => ⟨S8x2048x512, .f32⟩
  | 70 => ⟨S8x2048x512, .f32⟩
  | 71 => ⟨S8x2048x512, .f32⟩
  | 72 => ⟨S1x512, .f32⟩
  | 73 => ⟨S512, .f32⟩
  | 74 => ⟨S1x1x512, .f32⟩
  | 75 => ⟨S8x2048x512, .f32⟩
  | 76 => ⟨S8x2048x512, .f32⟩
  | 77 => ⟨S8x2048x512, .f32⟩
  | 78 => ⟨S8x2048x512, .f32⟩
  | 79 => ⟨S1x512, .f32⟩
  | 80 => ⟨S512, .f32⟩
  | 81 => ⟨S1x1x512, .f32⟩
  | 82 => ⟨S8x2048x512, .f32⟩
  | 83 => ⟨S8x2048x512, .f32⟩
  | 84 => ⟨S8x2048x512, .f32⟩
  | 85 => ⟨S8x2048x512, .f32⟩
  | 86 => ⟨S1x512, .f32⟩
  | 87 => ⟨S512, .f32⟩
  | 88 => ⟨S1x1x512, .f32⟩
  | 89 => ⟨S8x2048x512, .f32⟩
  | 90 => ⟨S8x2048x512, .f32⟩
  | 91 => ⟨S8x2048x512, .f32⟩
  | 92 => ⟨S8x2048x512, .f32⟩
  | 93 => ⟨S1x512, .f32⟩
  | 94 => ⟨S512, .f32⟩
  | 95 => ⟨S1x1x512, .f32⟩
  | 96 => ⟨S8x2048x512, .f32⟩
  | 97 => ⟨S8x2048x512, .f32⟩
  | 98 => ⟨S8x2048x512, .f32⟩
  | 99 => ⟨S1x1x512, .f32⟩
  | 100 => ⟨S8x2048x512, .f32⟩
  | 101 => ⟨S8x2048x512, .f32⟩
  | 102 => ⟨S_, .f32⟩
  | 103 => ⟨S8x2048, .f32⟩
  | 104 => ⟨S8x2048x1, .f32⟩
  | 105 => ⟨S_, .f32⟩
  | 106 => ⟨S8x2048x1, .f32⟩
  | 107 => ⟨S8x2048x1, .f32⟩
  | 108 => ⟨S8x2048x512, .f32⟩
  | 109 => ⟨S8x2048x512, .f32⟩
  | 110 => ⟨S8x2048x512, .f32⟩
  | 111 => ⟨S_, .f32⟩
  | 112 => ⟨S8x2048, .f32⟩
  | 113 => ⟨S8x2048x1, .f32⟩
  | 114 => ⟨S_, .f32⟩
  | 115 => ⟨S8x2048x1, .f32⟩
  | 116 => ⟨S8x2048x1, .f32⟩
  | 117 => ⟨S8x2048x512, .f32⟩
  | 118 => ⟨S8x2048x512, .f32⟩
  | 119 => ⟨S_, .f32⟩
  | 120 => ⟨S8x2048x1, .f32⟩
  | 121 => ⟨S8x2048x1, .f32⟩
  | 122 => ⟨S8x2048x1, .f32⟩
  | 123 => ⟨S8x2048x512, .f32⟩
  | 124 => ⟨S8x2048x512, .f32⟩
  | 125 => ⟨S1x1x512, .f32⟩
  | 126 => ⟨S8x2048x512, .f32⟩
  | 127 => ⟨S8x2048x512, .f32⟩
  | _ => ⟨S8x2048x512, .f32⟩

abbrev hbmTy0_2 (i : Nat) : BufTy := match i % 128 with
  | 0 => ⟨S1x1x512, .f32⟩
  | 1 => ⟨S8x2048x512, .f32⟩
  | 2 => ⟨S8x2048x512, .f32⟩
  | 3 => ⟨S8x2048x512, .f32⟩
  | 4 => ⟨S8x2048x512, .f32⟩
  | 5 => ⟨S_, .f32⟩
  | 6 => ⟨S8x2048x512, .f32⟩
  | 7 => ⟨S8x2048x512, .f32⟩
  | 8 => ⟨S_, .f32⟩
  | 9 => ⟨S8x2048x512, .f32⟩
  | 10 => ⟨S8x2048x512, .f32⟩
  | 11 => ⟨S8x2048x512, .f32⟩
  | 12 => ⟨S8x2048x512, .bf16⟩
  | _ => ⟨S8x2048x512, .f32⟩

abbrev hbmTy (i : Nat) : BufTy := match i / 128 with
  | 0 => hbmTy0_0 i
  | 1 => hbmTy0_1 i
  | 2 => hbmTy0_2 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_cst_0 : Ref sig .tc := ⟨.hbm, 230, rfl⟩
abbrev main_v222 : Ref sig .tc := ⟨.hbm, 231, rfl⟩
abbrev main_v223 : Ref sig .tc := ⟨.hbm, 232, rfl⟩
abbrev main_cst_1 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_cst_2 : Ref sig .tc := ⟨.hbm, 239, rfl⟩
abbrev main_v229 : Ref sig .tc := ⟨.hbm, 240, rfl⟩
abbrev main_v230 : Ref sig .tc := ⟨.hbm, 241, rfl⟩
abbrev main_cst_3 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_cst_4 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_call1_v0 : Ref sig .tc := ⟨.hbm, 259, rfl⟩
abbrev main_call1_v1 : Ref sig .tc := ⟨.hbm, 260, rfl⟩
abbrev main_call1_cst : Ref sig .tc := ⟨.hbm, 261, rfl⟩
abbrev main_call1_v2 : Ref sig .tc := ⟨.hbm, 262, rfl⟩
abbrev main_call1_v3 : Ref sig .tc := ⟨.hbm, 263, rfl⟩
abbrev main_call1_cst_0 : Ref sig .tc := ⟨.hbm, 264, rfl⟩
abbrev main_call1_v4 : Ref sig .tc := ⟨.hbm, 265, rfl⟩
abbrev main_call1_v5 : Ref sig .tc := ⟨.hbm, 266, rfl⟩
abbrev main_v246 : Ref sig .tc := ⟨.hbm, 267, rfl⟩
abbrev main_v247 : Ref sig .tc := ⟨.hbm, 268, rfl⟩

abbrev nD : Nat := 1
abbrev τ : Topo := Topo.v7x

variable {F : FTy → Type} [FloatOps F]
-- ==== Proof.Attn.Row.lean ====
module

public import Idealize.ShloMosaic.Lib.Pointwise

@[expose] public section

/-!
# One query of the block-sparse causal attention

Scores, gates and values of one query are sequences indexed by the key's position (by the block, for the gates).
`att n s v` is the softmax of the first `n` scores applied to the values, with a score of −∞ for every key the query
does not attend to. `masked i r S g` puts these −∞: the query in row `r` of block `i` attends to the keys of its own
block up to its own row and to the keys of the earlier blocks that fewer than three earlier blocks beat.
-/

noncomputable section

namespace Cert.Attn.Row

open Idealize.ShloMosaic Finset

/-- A finite family as a sequence. -/
def ext {n : ℕ} (f : Fin n → EReal) (x : ℕ) : EReal := if h : x < n then f ⟨x, h⟩ else 0

theorem ext_val {n : ℕ} (f : Fin n → EReal) (x : Fin n) : ext f x.val = f x := by simp [ext]

theorem ext_mk {n : ℕ} (f : Fin n → EReal) (x : ℕ) (h : x < n) : ext f x = f ⟨x, h⟩ := by simp [ext, h]

/-- The softmax of the first `n` scores applied to the values. -/
def att (n : ℕ) (s v : ℕ → EReal) : EReal :=
  Ideal.div (∑ x ∈ range n, Ideal.exp (s x - (range n).sup s) * v x) (∑ x ∈ range n, Ideal.exp (s x - (range n).sup s))

/-- How many of the first `i` blocks beat block `j`: an earlier one with a gate at least as large, a later one with a larger one. -/
def rank (i : ℕ) (g : ℕ → EReal) (j : ℕ) : ℕ :=
  ∑ m ∈ range i, if m < j then (decide (g j ≤ g m)).toNat else if j < m then (decide (g j < g m)).toNat else 0

/-- The scores of the query in row `r` of block `i`, −∞ where it does not attend. -/
def masked (i r : ℕ) (S g : ℕ → EReal) (x : ℕ) : EReal :=
  if x / 256 = i then (if x % 256 ≤ r then S x else ⊥)
  else if x / 256 < i ∧ rank i g (x / 256) < 3 then S x else ⊥

theorem sup_range_eq {n N : ℕ} (h : n ≤ N) (s : ℕ → EReal) (hs : ∀ x, n ≤ x → s x = ⊥) : (range n).sup s = (range N).sup s := by
  apply le_antisymm
  · exact Finset.sup_mono (Finset.range_subset_range.2 h)
  · refine Finset.sup_le fun x _ => ?_
    by_cases hx : x < n
    · exact Finset.le_sup (f := s) (Finset.mem_range.2 hx)
    · rw [hs x (by omega)]; exact bot_le

theorem exp_bot_sub (x : EReal) : Ideal.exp (⊥ - x) = 0 := by
  rw [EReal.bot_sub]; rfl

/-- Keys with a score of −∞ do not count. -/
theorem att_extend {n N : ℕ} (h : n ≤ N) (s v : ℕ → EReal) (hs : ∀ x, n ≤ x → s x = ⊥) : att n s v = att N s v := by
  have hsub := Finset.range_subset_range.2 h
  unfold att
  rw [sup_range_eq h s hs]
  congr 1
  · refine Finset.sum_subset hsub fun x _ hx => ?_
    rw [hs x (by simpa using hx), exp_bot_sub, zero_mul]
  · refine Finset.sum_subset hsub fun x _ hx => ?_
    rw [hs x (by simpa using hx), exp_bot_sub]

theorem masked_bot (i r : ℕ) (S g : ℕ → EReal) (x : ℕ) (hx : (i + 1) * 256 ≤ x) : masked i r S g x = ⊥ := by
  have : i + 1 ≤ x / 256 := (Nat.le_div_iff_mul_le (by norm_num)).2 hx
  rw [masked, if_neg (by omega), if_neg (by omega)]

theorem fold_fin {n : ℕ} (s : ℕ → EReal) :
    Finset.fold max (Ideal.ofBits FTy.f32 0xFF800000#32) (fun x : Fin n => s x.val) univ = (range n).sup s := by
  have hb : Ideal.ofBits FTy.f32 0xFF800000#32 = (⊥ : EReal) := by rfl
  rw [hb]
  show (univ : Finset (Fin n)).sup (fun x => s x.val) = _
  apply le_antisymm
  · exact Finset.sup_le fun x _ => Finset.le_sup (f := s) (Finset.mem_range.2 x.2)
  · exact Finset.sup_le fun x hx => Finset.le_sup (f := fun x : Fin n => s x.val) (Finset.mem_univ ⟨x, Finset.mem_range.1 hx⟩)

/-- The softmax written over a finite family. -/
theorem att_of_fin {n : ℕ} (s v : Fin n → EReal) (s' v' : ℕ → EReal) (hs : ∀ x, s x = s' x.val) (hv : ∀ x, v x = v' x.val) :
    Ideal.div (∑ x, Ideal.exp (s x - Finset.fold max (Ideal.ofBits FTy.f32 0xFF800000#32) s univ) * v x)
      (∑ x, Ideal.exp (s x - Finset.fold max (Ideal.ofBits FTy.f32 0xFF800000#32) s univ)) = att n s' v' := by
  obtain rfl : s = fun x => s' x.val := funext hs
  obtain rfl : v = fun x => v' x.val := funext hv
  rw [fold_fin, att, Finset.sum_range, Finset.sum_range]

/-- Values that are all zero give zero. -/
theorem att_zero (n : ℕ) (s v : ℕ → EReal) (hv : ∀ x, v x = 0) : att n s v = Ideal.div 0 (∑ x ∈ range n, Ideal.exp (s x - (range n).sup s)) := by
  unfold att; congr 1
  exact Finset.sum_eq_zero fun x _ => by rw [hv, mul_zero]

/-! ## The masks as the program writes them -/

theorem addi_bit (a : ℕ) (b : Bool) : IntOp.addi (BitVec.ofNat 32 a) (BitVec.setWidth 32 (BitVec.ofBool b)) = BitVec.ofNat 32 (a + b.toNat) := by
  cases b <;> simp [IntOp.addi, BitVec.ofNat_add]

theorem slt_three (a : ℕ) (ha : a < 256) : IntOp.cmpi .slt (BitVec.ofNat 32 a) 3#32 = BitVec.ofBool (decide (a < 3)) := by
  have h : (BitVec.ofNat 32 a).toInt = (a : ℤ) := by
    rw [BitVec.toInt_eq_toNat_of_lt (by rw [BitVec.toNat_ofNat]; omega), BitVec.toNat_ofNat, Nat.mod_eq_of_lt (by omega)]
  show BitVec.ofBool ((BitVec.ofNat 32 a).slt 3#32) = _
  rw [BitVec.slt, h]
  congr 1
  simp

theorem sle_nat (a b : ℕ) (ha : a < 256) (hb : b < 256) :
    IntOp.cmpi .sle (BitVec.ofNat 32 a) (BitVec.ofNat 32 b) = BitVec.ofBool (decide (a ≤ b)) := by
  have h (n : ℕ) (hn : n < 256) : (BitVec.ofNat 32 n).toInt = (n : ℤ) := by
    rw [BitVec.toInt_eq_toNat_of_lt (by rw [BitVec.toNat_ofNat]; omega), BitVec.toNat_ofNat, Nat.mod_eq_of_lt (by omega)]
  show BitVec.ofBool ((BitVec.ofNat 32 a).sle (BitVec.ofNat 32 b)) = _
  rw [BitVec.sle, h a ha, h b hb]
  congr 1
  simp

theorem select_bool {α : Type} (b : Bool) (x y : α) : Scalar.select (BitVec.ofBool b) x y = if b = true then x else y := by
  cases b <;> rfl

theorem rank_le (i : ℕ) (g : ℕ → EReal) (j : ℕ) : rank i g j ≤ i := by
  refine (Finset.sum_le_card_nsmul (range i) _ 1 fun m _ => ?_).trans (by simp)
  split_ifs
  · exact Bool.toNat_le _
  · exact Bool.toNat_le _
  · exact Nat.zero_le _

theorem rank_lt (i : ℕ) (g : ℕ → EReal) (j : ℕ) (hj : j < i) : rank i g j < i := by
  unfold rank
  rw [← Finset.add_sum_erase (range i) _ (Finset.mem_range.2 hj), if_neg (lt_irrefl j), if_neg (lt_irrefl j), zero_add]
  refine lt_of_le_of_lt (Finset.sum_le_card_nsmul ((range i).erase j) _ 1 fun m _ => ?_) ?_
  · split_ifs
    · exact Bool.toNat_le _
    · exact Bool.toNat_le _
    · exact Nat.zero_le _
  · rw [Finset.card_erase_of_mem (Finset.mem_range.2 hj), Finset.card_range, smul_eq_mul, mul_one]; omega

/-- A key of the query's own block. -/
theorem own {i r c x : ℕ} {S g : ℕ → EReal} {s : EReal} (hr : r < 256) (hx : x = i * 256 + c) (hc : c < 256) (hs : s = S x) :
    Scalar.select (IntOp.cmpi .sle (BitVec.ofNat 32 c) (BitVec.ofNat 32 r)) s ⊥ = masked i r S g x := by
  have h1 : x / 256 = i := by omega
  have h2 : x % 256 = c := by omega
  rw [sle_nat c r hc hr, select_bool, masked, if_pos h1, h2, hs]
  simp only [decide_eq_true_eq]

/-- A key of an earlier block, of at most three. -/
theorem few {i r x : ℕ} {S g : ℕ → EReal} {s : EReal} (hi : i ≤ 3) (hx : x < i * 256) (hs : s = S x) : s = masked i r S g x := by
  have h1 : x / 256 < i := by omega
  rw [masked, if_neg (by omega), if_pos ⟨h1, lt_of_lt_of_le (rank_lt i g _ h1) hi⟩, hs]

/-- A key of an earlier block, ranked. -/
theorem past {i r x a : ℕ} {S g : ℕ → EReal} {s : EReal} (j : ℕ) (hi : i < 256) (hj : j < i) (h0 : j * 256 ≤ x) (h1 : x < (j + 1) * 256)
    (ha : a = rank i g j) (hs : s = S x) :
    Scalar.select (IntOp.cmpi .slt (BitVec.ofNat 32 a) 3#32) s ⊥ = masked i r S g x := by
  have hx : x / 256 = j := by omega
  have := rank_le i g j
  rw [slt_three a (by omega), select_bool, masked, hx, if_neg (show ¬ j = i by omega), ha, hs]
  simp only [decide_eq_true_eq, hj, true_and]

end Cert.Attn.Row

end
-- ==== Proof.Attn.Block.lean ====
module

public import proofs.«01_k».proof.Proof.Gen.AttnIdeal.Frame
public import proofs.«01_k».proof.Proof.Attn.Row
public import Idealize.ShloMosaic.Lib.Pointwise

@[expose] public section

set_option maxRecDepth 16384

/-!
# Scores, gates and values of a block of queries

The pieces of one block's masked scores, read at an entry.
-/

noncomputable section

namespace Cert.AttnIdeal.Value

open Idealize.ShloMosaic Idealize.ShloMosaic.TcCoe Idealize.SL.Sem Cert.AttnIdeal Cert.AttnIdeal.Gen Cert.Attn.Row

/-- The query's products with every key. -/
def score (q k : FVec Ideal S2048x128 .bf16) (p : Fin 2048) : ℕ → EReal :=
  ext fun x : Fin 2048 => ∑ d : Fin 128, q (ix2 p d) * k (ix2 x d)

/-- The query's gates. -/
def gates (g : FVec Ideal S2048x8 .f32) (p : Fin 2048) : ℕ → EReal := ext fun m : Fin 8 => g (ix2 p m)

/-- One lane of the values. -/
def lane (v : FVec Ideal S2048x128 .bf16) (l : Fin 128) : ℕ → EReal := ext fun x : Fin 2048 => v (ix2 x l)

theorem neg_eq : (Named.named κ "neg" 0xFF7F0000#32 : Ideal .f32) = (⊥ : EReal) := IdealRules.named_const.ideal_named_scalar _ _ _ _ rfl

/-- A ranked block of scores. -/
theorem ranked {i : ℕ} (j : ℕ) {r c : Fin 256} {S G : ℕ → EReal} (R : IVec S256x1 32) (P : FVec Ideal S256x256 .f32) (h1 h2)
    (hi : i < 256) (hj : j < i) (hR : R (ix2 r 0) = BitVec.ofNat 32 (rank i G j)) (hP : P (ix2 r c) = S (j * 256 + c.val)) :
    (select (broadcastTo S256x256 (shapeCast S256x1 (cmpi .slt R (broadcast S256x1 3#32)) h1) h2) P
      (broadcast S256x256 (Named.named κ "neg" 0xFF7F0000#32)) : FVec Ideal S256x256 .f32) (ix2 r c) = masked i r S G (j * 256 + c.val) := by
  generalize hM : masked _ _ _ _ _ = M
  pointwise [neg_eq, hR]
  subst hM
  exact past j hi hj (by omega) (by omega) rfl hP

/-- The query's own block of scores. -/
theorem owned {i : ℕ} {r c : Fin 256} {S G : ℕ → EReal} (P : FVec Ideal S256x256 .f32) (hP : P (ix2 r c) = S (i * 256 + c.val)) :
    (select k0_pay3 P (broadcast S256x256 (Named.named κ "neg" 0xFF7F0000#32)) : FVec Ideal S256x256 .f32) (ix2 r c)
      = masked i r S G (i * 256 + c.val) := by
  generalize hM : masked _ _ _ _ _ = M
  pointwise [neg_eq, k0_pay3]
  subst hM
  exact own r.2 rfl c.2 hP

theorem score_at (q k : FVec Ideal S2048x128 .bf16) (p : Fin 2048) (x y : ℕ) (h : x < 2048) (e : x = y) :
    ∑ d : Fin 128, q (ix2 p d) * k (ix2 ⟨x, h⟩ d) = score q k p y := by
  subst e; exact (ext_mk (fun x : Fin 2048 => ∑ d : Fin 128, q (ix2 p d) * k (ix2 x d)) x h).symm

theorem lane_at (v : FVec Ideal S2048x128 .bf16) (l : Fin 128) (x : ℕ) (h : x < 2048) : v (ix2 ⟨x, h⟩ l) = lane v l x :=
  (ext_mk (fun x : Fin 2048 => v (ix2 x l)) x h).symm

/-- The row of query `r` in block `i`. -/
abbrev at_ (r : Fin 256) (i : ℕ) (h : i * 256 + r.val < 2048 := by omega) : Fin 2048 := ⟨i * 256 + r.val, h⟩

end Cert.AttnIdeal.Value

end
-- ==== Proof.Attn.Head0.lean ====
module

public import proofs.«01_k».proof.Proof.Gen.AttnIdeal.Frame
public import proofs.«01_k».proof.Proof.Attn.Block
public import Idealize.ShloMosaic.Lib.Pointwise

@[expose] public section

set_option maxRecDepth 16384

/-!
# What one block of queries computes for the step's first head

The queries and the values arrive with the other head's lanes at zero, so their products with the whole key rows are the
head's scores. A query block `i` sees the keys of the blocks up to its own.
-/

noncomputable section

namespace Cert.AttnIdeal.Value

open Idealize.ShloMosaic Idealize.ShloMosaic.TcCoe Idealize.SL.Sem Cert.AttnIdeal Cert.AttnIdeal.Gen Cert.Attn.Row

variable (k q v : FVec Ideal S2048x128 .bf16) (g : FVec Ideal S2048x8 .f32) (r : Fin 256) (l : Fin 128)

theorem first0 (x0 : FVec Ideal S2048x128 .bf16) : k0_pay9 (F := Ideal) v (k0_pay8 x0 k) (ix2 r l)
    = att 256 (masked 0 r (score (k0_pay5 (F := Ideal) x0) k (at_ r 0)) (gates g (at_ r 0))) (lane v l) := by
  obtain ⟨M, hM⟩ : ∃ M, M = masked 0 r (score (k0_pay5 (F := Ideal) x0) k (at_ r 0)) (gates g (at_ r 0)) := ⟨_, rfl⟩
  obtain ⟨A, hA⟩ : ∃ A, A = att 256 M (lane v l) := ⟨_, rfl⟩
  rw [← hM, ← hA]
  dsimp only [k0_pay8, k0_pay9]
  generalize k0_pay5 (F := Ideal) x0 = q at hM ⊢
  generalize hs : (select _ _ _ : FVec Ideal S256x256 .f32) = s
  have e : ∀ c : Fin 256, s (ix2 r c) = M c.val := by
    intro c
    rw [← hs]
    pointwise [k0_pay3, neg_eq]
    rw [hM]
    refine own r.2 (by omega) (by omega) ?_
    rw [show at_ r 0 = ⟨r.val, by omega⟩ from Fin.ext (by show 0 * 256 + r.val = r.val; omega)]
    exact score_at q k _ c.val c.val (by omega) rfl
  clear hs
  pointwise []
  rw [hA]
  exact att_of_fin _ _ _ _ e fun x => lane_at v l x _

theorem first1 : k0_pay10 (F := Ideal) k k0_pay3 q v (ix2 r l)
    = att 512 (masked 1 r (score q k (at_ r 1)) (gates g (at_ r 1))) (lane v l) := by
  obtain ⟨M, hM⟩ : ∃ M, M = masked 1 r (score q k (at_ r 1)) (gates g (at_ r 1)) := ⟨_, rfl⟩
  obtain ⟨A, hA⟩ : ∃ A, A = att 512 M (lane v l) := ⟨_, rfl⟩
  rw [← hM, ← hA]
  unfold_payloads
  dsimp only
  generalize hs : (concatenate _ _ _ _ : FVec Ideal S256x512 .f32) = s
  have e : ∀ c : Fin 512, s (ix2 r c) = M c.val := by
    intro c
    rw [← hs]
    pointwise [k0_pay3, neg_eq]
    rw [hM]
    split_ifs <;> first
    | exact few (by omega) (by omega) (score_at q k _ _ _ _ (by omega))
    | exact own r.2 (by omega) (by omega) (score_at q k _ _ _ _ (by omega))
    | exact absurd rfl ‹_›
  clear hs
  pointwise []
  rw [hA]
  exact att_of_fin _ _ _ _ e fun x => lane_at v l x _

theorem first2 : k0_pay11 (F := Ideal) k k0_pay3 q v (ix2 r l)
    = att 768 (masked 2 r (score q k (at_ r 2)) (gates g (at_ r 2))) (lane v l) := by
  obtain ⟨M, hM⟩ : ∃ M, M = masked 2 r (score q k (at_ r 2)) (gates g (at_ r 2)) := ⟨_, rfl⟩
  obtain ⟨A, hA⟩ : ∃ A, A = att 768 M (lane v l) := ⟨_, rfl⟩
  rw [← hM, ← hA]
  unfold_payloads
  dsimp only
  generalize hs : (concatenate _ _ _ _ : FVec Ideal S256x768 .f32) = s
  have e : ∀ c : Fin 768, s (ix2 r c) = M c.val := by
    intro c
    rw [← hs]
    pointwise [k0_pay3, neg_eq]
    rw [hM]
    split_ifs <;> first
    | exact few (by omega) (by omega) (score_at q k _ _ _ _ (by omega))
    | exact own r.2 (by omega) (by omega) (score_at q k _ _ _ _ (by omega))
    | exact absurd rfl ‹_›
  clear hs
  pointwise []
  rw [hA]
  exact att_of_fin _ _ _ _ e fun x => lane_at v l x _

theorem first3 : k0_pay12 (F := Ideal) k k0_pay3 q v (ix2 r l)
    = att 1024 (masked 3 r (score q k (at_ r 3)) (gates g (at_ r 3))) (lane v l) := by
  obtain ⟨M, hM⟩ : ∃ M, M = masked 3 r (score q k (at_ r 3)) (gates g (at_ r 3)) := ⟨_, rfl⟩
  obtain ⟨A, hA⟩ : ∃ A, A = att 1024 M (lane v l) := ⟨_, rfl⟩
  rw [← hM, ← hA]
  unfold_payloads
  dsimp only
  generalize hs : (concatenate _ _ _ _ : FVec Ideal S256x1024 .f32) = s
  have e : ∀ c : Fin 1024, s (ix2 r c) = M c.val := by
    intro c
    rw [← hs]
    pointwise [k0_pay3, neg_eq]
    rw [hM]
    split_ifs <;> first
    | exact few (by omega) (by omega) (score_at q k _ _ _ _ (by omega))
    | exact own r.2 (by omega) (by omega) (score_at q k _ _ _ _ (by omega))
    | exact absurd rfl ‹_›
  clear hs
  pointwise []
  rw [hA]
  exact att_of_fin _ _ _ _ e fun x => lane_at v l x _

theorem first4 : k0_pay23 (F := Ideal) v (k0_pay22 k0_pay3 (k0_pay13 k q) (k0_pay14 g) (k0_pay15 g) (k0_pay16 g) (k0_pay17 g) (k0_pay18 k q g) (k0_pay19 k q) k0_pay20 (k0_pay21 g)) (ix2 r l)
    = att 1280 (masked 4 r (score q k (at_ r 4)) (gates g (at_ r 4))) (lane v l) := by
  obtain ⟨M, hM⟩ : ∃ M, M = masked 4 r (score q k (at_ r 4)) (gates g (at_ r 4)) := ⟨_, rfl⟩
  obtain ⟨A, hA⟩ : ∃ A, A = att 1280 M (lane v l) := ⟨_, rfl⟩
  rw [← hM, ← hA]
  unfold_payloads
  dsimp only
  generalize hs : (concatenate _ _ _ _ : FVec Ideal S256x1280 .f32) = s
  generalize h0 : (select _ _ _ : FVec Ideal S256x256 .f32) = p0 at hs
  generalize h1 : (select _ _ _ : FVec Ideal S256x256 .f32) = p1 at hs
  generalize h2 : (select _ _ _ : FVec Ideal S256x256 .f32) = p2 at hs
  generalize h3 : (select _ _ _ : FVec Ideal S256x256 .f32) = p3 at hs
  generalize h4 : (select _ _ _ : FVec Ideal S256x256 .f32) = p4 at hs
  have f : ∀ c : Fin 256, p0 (ix2 r c) = M (0 * 256 + c.val) ∧ p1 (ix2 r c) = M (1 * 256 + c.val) ∧ p2 (ix2 r c) = M (2 * 256 + c.val) ∧ p3 (ix2 r c) = M (3 * 256 + c.val) ∧ p4 (ix2 r c) = M (4 * 256 + c.val) := by
    clear hs
    intro c
    rw [hM, ← h0, ← h1, ← h2, ← h3, ← h4]
    refine ⟨ranked 0 _ _ _ _ (by omega) (by omega) ?_ ?_, ranked 1 _ _ _ _ (by omega) (by omega) ?_ ?_, ranked 2 _ _ _ _ (by omega) (by omega) ?_ ?_, ranked 3 _ _ _ _ (by omega) (by omega) ?_ ?_, owned _ ?_⟩
    all_goals first
    | (pointwise []; exact score_at q k _ _ _ _ (by omega))
    | (pointwise []; simp only [addi_bit]; simp [rank, Finset.sum_range_succ, gates, ext_mk])
  clear h0 h1 h2 h3 h4
  have e : ∀ c : Fin 1280, s (ix2 r c) = M c.val := by
    intro c
    rw [← hs]
    pointwise [f]
    split_ifs <;> congr 1 <;> omega
  clear hs
  pointwise []
  rw [hA]
  exact att_of_fin _ _ _ _ e fun x => lane_at v l x _

theorem first5 : k0_pay40 (F := Ideal) k0_pay3 v (k0_pay24 k q) (k0_pay26 g) (k0_pay27 g) (k0_pay28 g) (k0_pay29 g) (k0_pay30 k q g) (k0_pay34 (k0_pay31 k q) (k0_pay32 g) (k0_pay33 g)) (k0_pay35 (k0_pay24 k q) (k0_pay25 g) (k0_pay26 g) (k0_pay27 g) (k0_pay28 g) (k0_pay29 g)) (k0_pay36 (k0_pay24 k q) (k0_pay25 g) (k0_pay26 g) (k0_pay27 g) (k0_pay28 g) (k0_pay29 g)) (k0_pay37 (k0_pay24 k q)) k0_pay38 (k0_pay39 (k0_pay25 g) (k0_pay29 g)) (ix2 r l)
    = att 1536 (masked 5 r (score q k (at_ r 5)) (gates g (at_ r 5))) (lane v l) := by
  obtain ⟨M, hM⟩ : ∃ M, M = masked 5 r (score q k (at_ r 5)) (gates g (at_ r 5)) := ⟨_, rfl⟩
  obtain ⟨A, hA⟩ : ∃ A, A = att 1536 M (lane v l) := ⟨_, rfl⟩
  rw [← hM, ← hA]
  unfold_payloads
  dsimp only
  generalize hs : (concatenate _ _ _ _ : FVec Ideal S256x1536 .f32) = s
  generalize h0 : (select _ _ _ : FVec Ideal S256x256 .f32) = p0 at hs
  generalize h1 : (select _ _ _ : FVec Ideal S256x256 .f32) = p1 at hs
  generalize h2 : (select _ _ _ : FVec Ideal S256x256 .f32) = p2 at hs
  generalize h3 : (select _ _ _ : FVec Ideal S256x256 .f32) = p3 at hs
  generalize h4 : (select _ _ _ : FVec Ideal S256x256 .f32) = p4 at hs
  generalize h5 : (select _ _ _ : FVec Ideal S256x256 .f32) = p5 at hs
  have f : ∀ c : Fin 256, p0 (ix2 r c) = M (0 * 256 + c.val) ∧ p1 (ix2 r c) = M (1 * 256 + c.val) ∧ p2 (ix2 r c) = M (2 * 256 + c.val) ∧ p3 (ix2 r c) = M (3 * 256 + c.val) ∧ p4 (ix2 r c) = M (4 * 256 + c.val) ∧ p5 (ix2 r c) = M (5 * 256 + c.val) := by
    clear hs
    intro c
    rw [hM, ← h0, ← h1, ← h2, ← h3, ← h4, ← h5]
    refine ⟨ranked 0 _ _ _ _ (by omega) (by omega) ?_ ?_, ranked 1 _ _ _ _ (by omega) (by omega) ?_ ?_, ranked 2 _ _ _ _ (by omega) (by omega) ?_ ?_, ranked 3 _ _ _ _ (by omega) (by omega) ?_ ?_, ranked 4 _ _ _ _ (by omega) (by omega) ?_ ?_, owned _ ?_⟩
    all_goals first
    | (pointwise []; exact score_at q k _ _ _ _ (by omega))
    | (pointwise []; simp only [addi_bit]; simp [rank, Finset.sum_range_succ, gates, ext_mk])
  clear h0 h1 h2 h3 h4 h5
  have e : ∀ c : Fin 1536, s (ix2 r c) = M c.val := by
    intro c
    rw [← hs]
    pointwise [f]
    split_ifs <;> congr 1 <;> omega
  clear hs
  pointwise []
  rw [hA]
  exact att_of_fin _ _ _ _ e fun x => lane_at v l x _

theorem first6 : k0_pay59 (F := Ideal) k0_pay3 v (k0_pay41 k q) (k0_pay42 g) (k0_pay43 g) (k0_pay44 g) (k0_pay45 g) (k0_pay46 g) (k0_pay47 g) (k0_pay51 (k0_pay42 g) (k0_pay46 g) (k0_pay47 g) (k0_pay48 k q) (k0_pay49 g) (k0_pay50 g)) (k0_pay52 (k0_pay41 k q) (k0_pay42 g) (k0_pay43 g) (k0_pay44 g) (k0_pay45 g) (k0_pay46 g) (k0_pay47 g)) (k0_pay55 (k0_pay53 (k0_pay41 k q)) (k0_pay54 (k0_pay42 g) (k0_pay43 g) (k0_pay44 g) (k0_pay45 g) (k0_pay46 g) (k0_pay47 g)) 3#32) (k0_pay56 (k0_pay41 k q) (k0_pay42 g) (k0_pay43 g) (k0_pay44 g) (k0_pay45 g) (k0_pay46 g) (k0_pay47 g)) (k0_pay57 (k0_pay41 k q) (k0_pay42 g) (k0_pay43 g) (k0_pay44 g) (k0_pay45 g) (k0_pay46 g) (k0_pay47 g)) (k0_pay58 (k0_pay41 k q)) (ix2 r l)
    = att 1792 (masked 6 r (score q k (at_ r 6)) (gates g (at_ r 6))) (lane v l) := by
  obtain ⟨M, hM⟩ : ∃ M, M = masked 6 r (score q k (at_ r 6)) (gates g (at_ r 6)) := ⟨_, rfl⟩
  obtain ⟨A, hA⟩ : ∃ A, A = att 1792 M (lane v l) := ⟨_, rfl⟩
  rw [← hM, ← hA]
  unfold_payloads
  dsimp only
  generalize hs : (concatenate _ _ _ _ : FVec Ideal S256x1792 .f32) = s
  generalize h0 : (select _ _ _ : FVec Ideal S256x256 .f32) = p0 at hs
  generalize h1 : (select _ _ _ : FVec Ideal S256x256 .f32) = p1 at hs
  generalize h2 : (select _ _ _ : FVec Ideal S256x256 .f32) = p2 at hs
  generalize h3 : (select _ _ _ : FVec Ideal S256x256 .f32) = p3 at hs
  generalize h4 : (select _ _ _ : FVec Ideal S256x256 .f32) = p4 at hs
  generalize h5 : (select _ _ _ : FVec Ideal S256x256 .f32) = p5 at hs
  generalize h6 : (select _ _ _ : FVec Ideal S256x256 .f32) = p6 at hs
  have f : ∀ c : Fin 256, p0 (ix2 r c) = M (0 * 256 + c.val) ∧ p1 (ix2 r c) = M (1 * 256 + c.val) ∧ p2 (ix2 r c) = M (2 * 256 + c.val) ∧ p3 (ix2 r c) = M (3 * 256 + c.val) ∧ p4 (ix2 r c) = M (4 * 256 + c.val) ∧ p5 (ix2 r c) = M (5 * 256 + c.val) ∧ p6 (ix2 r c) = M (6 * 256 + c.val) := by
    clear hs
    intro c
    rw [hM, ← h0, ← h1, ← h2, ← h3, ← h4, ← h5, ← h6]
    refine ⟨ranked 0 _ _ _ _ (by omega) (by omega) ?_ ?_, ranked 1 _ _ _ _ (by omega) (by omega) ?_ ?_, ranked 2 _ _ _ _ (by omega) (by omega) ?_ ?_, ranked 3 _ _ _ _ (by omega) (by omega) ?_ ?_, ranked 4 _ _ _ _ (by omega) (by omega) ?_ ?_, ranked 5 _ _ _ _ (by omega) (by omega) ?_ ?_, owned _ ?_⟩
    all_goals first
    | (pointwise []; exact score_at q k _ _ _ _ (by omega))
    | (pointwise []; simp only [addi_bit]; simp [rank, Finset.sum_range_succ, gates, ext_mk])
  clear h0 h1 h2 h3 h4 h5 h6
  have e : ∀ c : Fin 1792, s (ix2 r c) = M c.val := by
    intro c
    rw [← hs]
    pointwise [f]
    split_ifs <;> congr 1 <;> omega
  clear hs
  pointwise []
  rw [hA]
  exact att_of_fin _ _ _ _ e fun x => lane_at v l x _

theorem first7 : k0_pay85 (F := Ideal) k0_pay3 v (k0_pay60 k q) (k0_pay64 g) (k0_pay65 g) (k0_pay66 g) (k0_pay67 g) (k0_pay71 (k0_pay61 g) (k0_pay63 g) (k0_pay64 g) (k0_pay65 g) (k0_pay66 g) (k0_pay67 g) (k0_pay68 k q) k0_pay69 (k0_pay70 g)) (k0_pay72 (k0_pay60 k q) (k0_pay61 g) (k0_pay62 g) (k0_pay63 g) (k0_pay64 g) (k0_pay65 g) (k0_pay66 g) (k0_pay67 g)) (k0_pay76 (k0_pay63 g) (k0_pay64 g) (k0_pay65 g) (k0_pay66 g) (k0_pay67 g) (k0_pay73 (k0_pay60 k q)) (k0_pay74 (k0_pay61 g) (k0_pay63 g)) (k0_pay75 (k0_pay62 g) (k0_pay63 g))) (k0_pay77 (k0_pay60 k q) (k0_pay61 g) (k0_pay62 g) (k0_pay63 g) (k0_pay64 g) (k0_pay65 g) (k0_pay66 g) (k0_pay67 g)) (k0_pay80 (k0_pay63 g) (k0_pay64 g) (k0_pay65 g) (k0_pay66 g) (k0_pay67 g) (k0_pay78 (k0_pay60 k q)) (k0_pay79 (k0_pay61 g) (k0_pay62 g) (k0_pay65 g))) (k0_pay81 (k0_pay60 k q) (k0_pay61 g) (k0_pay62 g) (k0_pay63 g) (k0_pay64 g) (k0_pay65 g) (k0_pay66 g) (k0_pay67 g)) (k0_pay82 (k0_pay60 k q)) (k0_pay83 (k0_pay61 g) (k0_pay62 g) (k0_pay67 g)) (k0_pay84 (k0_pay63 g) (k0_pay67 g)) (ix2 r l)
    = att 2048 (masked 7 r (score q k (at_ r 7)) (gates g (at_ r 7))) (lane v l) := by
  obtain ⟨M, hM⟩ : ∃ M, M = masked 7 r (score q k (at_ r 7)) (gates g (at_ r 7)) := ⟨_, rfl⟩
  obtain ⟨A, hA⟩ : ∃ A, A = att 2048 M (lane v l) := ⟨_, rfl⟩
  rw [← hM, ← hA]
  unfold_payloads
  dsimp only
  generalize hs : (concatenate _ _ _ _ : FVec Ideal S256x2048 .f32) = s
  generalize h0 : (select _ _ _ : FVec Ideal S256x256 .f32) = p0 at hs
  generalize h1 : (select _ _ _ : FVec Ideal S256x256 .f32) = p1 at hs
  generalize h2 : (select _ _ _ : FVec Ideal S256x256 .f32) = p2 at hs
  generalize h3 : (select _ _ _ : FVec Ideal S256x256 .f32) = p3 at hs
  generalize h4 : (select _ _ _ : FVec Ideal S256x256 .f32) = p4 at hs
  generalize h5 : (select _ _ _ : FVec Ideal S256x256 .f32) = p5 at hs
  generalize h6 : (select _ _ _ : FVec Ideal S256x256 .f32) = p6 at hs
  generalize h7 : (select _ _ _ : FVec Ideal S256x256 .f32) = p7 at hs
  have f : ∀ c : Fin 256, p0 (ix2 r c) = M (0 * 256 + c.val) ∧ p1 (ix2 r c) = M (1 * 256 + c.val) ∧ p2 (ix2 r c) = M (2 * 256 + c.val) ∧ p3 (ix2 r c) = M (3 * 256 + c.val) ∧ p4 (ix2 r c) = M (4 * 256 + c.val) ∧ p5 (ix2 r c) = M (5 * 256 + c.val) ∧ p6 (ix2 r c) = M (6 * 256 + c.val) ∧ p7 (ix2 r c) = M (7 * 256 + c.val) := by
    clear hs
    intro c
    rw [hM, ← h0, ← h1, ← h2, ← h3, ← h4, ← h5, ← h6, ← h7]
    refine ⟨ranked 0 _ _ _ _ (by omega) (by omega) ?_ ?_, ranked 1 _ _ _ _ (by omega) (by omega) ?_ ?_, ranked 2 _ _ _ _ (by omega) (by omega) ?_ ?_, ranked 3 _ _ _ _ (by omega) (by omega) ?_ ?_, ranked 4 _ _ _ _ (by omega) (by omega) ?_ ?_, ranked 5 _ _ _ _ (by omega) (by omega) ?_ ?_, ranked 6 _ _ _ _ (by omega) (by omega) ?_ ?_, owned _ ?_⟩
    all_goals first
    | (pointwise []; exact score_at q k _ _ _ _ (by omega))
    | (pointwise []; simp only [addi_bit]; simp [rank, Finset.sum_range_succ, gates, ext_mk])
  clear h0 h1 h2 h3 h4 h5 h6 h7
  have e : ∀ c : Fin 2048, s (ix2 r c) = M c.val := by
    intro c
    rw [← hs]
    pointwise [f]
    split_ifs <;> congr 1 <;> omega
  clear hs
  pointwise []
  rw [hA]
  exact att_of_fin _ _ _ _ e fun x => lane_at v l x _

end Cert.AttnIdeal.Value

end
-- ==== Proof.Attn.Head1.lean ====
module

public import proofs.«01_k».proof.Proof.Gen.AttnIdeal.Frame
public import proofs.«01_k».proof.Proof.Attn.Block
public import Idealize.ShloMosaic.Lib.Pointwise

@[expose] public section

set_option maxRecDepth 16384

/-!
# What one block of queries computes for the step's second head, added to the first's

The queries and the values arrive with the other head's lanes at zero, so their products with the whole key rows are the
head's scores. A query block `i` sees the keys of the blocks up to its own.
-/

noncomputable section

namespace Cert.AttnIdeal.Value

open Idealize.ShloMosaic Idealize.ShloMosaic.TcCoe Idealize.SL.Sem Cert.AttnIdeal Cert.AttnIdeal.Gen Cert.Attn.Row

variable (k q v : FVec Ideal S2048x128 .bf16) (g : FVec Ideal S2048x8 .f32) (r : Fin 256) (l : Fin 128)

theorem second0 (o : FVec Ideal S256x128 .f32) : k0_pay91 (F := Ideal) k k0_pay3 o q v (ix2 r l)
    = o (ix2 r l) + att 256 (masked 0 r (score q k (at_ r 0)) (gates g (at_ r 0))) (lane v l) := by
  obtain ⟨M, hM⟩ : ∃ M, M = masked 0 r (score q k (at_ r 0)) (gates g (at_ r 0)) := ⟨_, rfl⟩
  obtain ⟨A, hA⟩ : ∃ A, A = att 256 M (lane v l) := ⟨_, rfl⟩
  rw [← hM, ← hA]
  unfold_payloads
  dsimp only
  generalize hs : (select _ _ _ : FVec Ideal S256x256 .f32) = s
  have e : ∀ c : Fin 256, s (ix2 r c) = M c.val := by
    intro c
    rw [← hs]
    pointwise [k0_pay3, neg_eq]
    rw [hM]
    refine own r.2 (by omega) (by omega) ?_
    rw [show at_ r 0 = ⟨r.val, by omega⟩ from Fin.ext (by show 0 * 256 + r.val = r.val; omega)]
    exact score_at q k _ c.val c.val (by omega) rfl
  clear hs
  pointwise []
  rw [hA]
  refine congrArg _ ?_
  exact att_of_fin _ _ _ _ e fun x => lane_at v l x _

theorem second1 (o : FVec Ideal S256x128 .f32) : k0_pay92 (F := Ideal) k k0_pay3 o q v (ix2 r l)
    = o (ix2 r l) + att 512 (masked 1 r (score q k (at_ r 1)) (gates g (at_ r 1))) (lane v l) := by
  obtain ⟨M, hM⟩ : ∃ M, M = masked 1 r (score q k (at_ r 1)) (gates g (at_ r 1)) := ⟨_, rfl⟩
  obtain ⟨A, hA⟩ : ∃ A, A = att 512 M (lane v l) := ⟨_, rfl⟩
  rw [← hM, ← hA]
  unfold_payloads
  dsimp only
  generalize hs : (concatenate _ _ _ _ : FVec Ideal S256x512 .f32) = s
  have e : ∀ c : Fin 512, s (ix2 r c) = M c.val := by
    intro c
    rw [← hs]
    pointwise [k0_pay3, neg_eq]
    rw [hM]
    split_ifs <;> first
    | exact few (by omega) (by omega) (score_at q k _ _ _ _ (by omega))
    | exact own r.2 (by omega) (by omega) (score_at q k _ _ _ _ (by omega))
    | exact absurd rfl ‹_›
  clear hs
  pointwise []
  rw [hA]
  refine congrArg _ ?_
  exact att_of_fin _ _ _ _ e fun x => lane_at v l x _

theorem second2 (o : FVec Ideal S256x128 .f32) : k0_pay98 (F := Ideal) k0_pay3 o v (k0_pay94 k q) (k0_pay95 k q) (k0_pay96 k q) k0_pay97 (ix2 r l)
    = o (ix2 r l) + att 768 (masked 2 r (score q k (at_ r 2)) (gates g (at_ r 2))) (lane v l) := by
  obtain ⟨M, hM⟩ : ∃ M, M = masked 2 r (score q k (at_ r 2)) (gates g (at_ r 2)) := ⟨_, rfl⟩
  obtain ⟨A, hA⟩ : ∃ A, A = att 768 M (lane v l) := ⟨_, rfl⟩
  rw [← hM, ← hA]
  unfold_payloads
  dsimp only
  generalize hs : (concatenate _ _ _ _ : FVec Ideal S256x768 .f32) = s
  have e : ∀ c : Fin 768, s (ix2 r c) = M c.val := by
    intro c
    rw [← hs]
    pointwise [k0_pay3, neg_eq]
    rw [hM]
    split_ifs <;> first
    | exact few (by omega) (by omega) (score_at q k _ _ _ _ (by omega))
    | exact own r.2 (by omega) (by omega) (score_at q k _ _ _ _ (by omega))
    | exact absurd rfl ‹_›
  clear hs
  pointwise []
  rw [hA]
  refine congrArg _ ?_
  exact att_of_fin _ _ _ _ e fun x => lane_at v l x _

theorem second3 (o : FVec Ideal S256x128 .f32) : k0_pay99 (F := Ideal) k k0_pay3 o q v (ix2 r l)
    = o (ix2 r l) + att 1024 (masked 3 r (score q k (at_ r 3)) (gates g (at_ r 3))) (lane v l) := by
  obtain ⟨M, hM⟩ : ∃ M, M = masked 3 r (score q k (at_ r 3)) (gates g (at_ r 3)) := ⟨_, rfl⟩
  obtain ⟨A, hA⟩ : ∃ A, A = att 1024 M (lane v l) := ⟨_, rfl⟩
  rw [← hM, ← hA]
  unfold_payloads
  dsimp only
  generalize hs : (concatenate _ _ _ _ : FVec Ideal S256x1024 .f32) = s
  have e : ∀ c : Fin 1024, s (ix2 r c) = M c.val := by
    intro c
    rw [← hs]
    pointwise [k0_pay3, neg_eq]
    rw [hM]
    split_ifs <;> first
    | exact few (by omega) (by omega) (score_at q k _ _ _ _ (by omega))
    | exact own r.2 (by omega) (by omega) (score_at q k _ _ _ _ (by omega))
    | exact absurd rfl ‹_›
  clear hs
  pointwise []
  rw [hA]
  refine congrArg _ ?_
  exact att_of_fin _ _ _ _ e fun x => lane_at v l x _

theorem second4 (o : FVec Ideal S256x128 .f32) : k0_pay112 (F := Ideal) k0_pay3 o v (k0_pay100 k q) (k0_pay102 g) (k0_pay103 g) (k0_pay104 g) (k0_pay107 (k0_pay101 g) (k0_pay103 g) (k0_pay104 g) (k0_pay105 k q) (k0_pay106 g)) (k0_pay108 (k0_pay100 k q) (k0_pay101 g) (k0_pay102 g) (k0_pay103 g) (k0_pay104 g)) (k0_pay109 (k0_pay100 k q) (k0_pay101 g) (k0_pay102 g) (k0_pay103 g) (k0_pay104 g)) (k0_pay110 (k0_pay100 k q)) (k0_pay111 (k0_pay101 g) (k0_pay104 g)) (ix2 r l)
    = o (ix2 r l) + att 1280 (masked 4 r (score q k (at_ r 4)) (gates g (at_ r 4))) (lane v l) := by
  obtain ⟨M, hM⟩ : ∃ M, M = masked 4 r (score q k (at_ r 4)) (gates g (at_ r 4)) := ⟨_, rfl⟩
  obtain ⟨A, hA⟩ : ∃ A, A = att 1280 M (lane v l) := ⟨_, rfl⟩
  rw [← hM, ← hA]
  unfold_payloads
  dsimp only
  generalize hs : (concatenate _ _ _ _ : FVec Ideal S256x1280 .f32) = s
  generalize h0 : (select _ _ _ : FVec Ideal S256x256 .f32) = p0 at hs
  generalize h1 : (select _ _ _ : FVec Ideal S256x256 .f32) = p1 at hs
  generalize h2 : (select _ _ _ : FVec Ideal S256x256 .f32) = p2 at hs
  generalize h3 : (select _ _ _ : FVec Ideal S256x256 .f32) = p3 at hs
  generalize h4 : (select _ _ _ : FVec Ideal S256x256 .f32) = p4 at hs
  have f : ∀ c : Fin 256, p0 (ix2 r c) = M (0 * 256 + c.val) ∧ p1 (ix2 r c) = M (1 * 256 + c.val) ∧ p2 (ix2 r c) = M (2 * 256 + c.val) ∧ p3 (ix2 r c) = M (3 * 256 + c.val) ∧ p4 (ix2 r c) = M (4 * 256 + c.val) := by
    clear hs
    intro c
    rw [hM, ← h0, ← h1, ← h2, ← h3, ← h4]
    refine ⟨ranked 0 _ _ _ _ (by omega) (by omega) ?_ ?_, ranked 1 _ _ _ _ (by omega) (by omega) ?_ ?_, ranked 2 _ _ _ _ (by omega) (by omega) ?_ ?_, ranked 3 _ _ _ _ (by omega) (by omega) ?_ ?_, owned _ ?_⟩
    all_goals first
    | (pointwise []; exact score_at q k _ _ _ _ (by omega))
    | (pointwise []; simp only [addi_bit]; simp [rank, Finset.sum_range_succ, gates, ext_mk])
  clear h0 h1 h2 h3 h4
  have e : ∀ c : Fin 1280, s (ix2 r c) = M c.val := by
    intro c
    rw [← hs]
    pointwise [f]
    split_ifs <;> congr 1 <;> omega
  clear hs
  pointwise []
  rw [hA]
  refine congrArg _ ?_
  exact att_of_fin _ _ _ _ e fun x => lane_at v l x _

theorem second5 (o : FVec Ideal S256x128 .f32) : k0_pay127 (F := Ideal) k0_pay3 o v (k0_pay113 k q) (k0_pay114 g) (k0_pay115 g) (k0_pay116 g) (k0_pay117 g) (k0_pay118 g) (k0_pay121 (k0_pay119 k q) (k0_pay120 g) 3#32) (k0_pay122 (k0_pay113 k q) (k0_pay114 g) (k0_pay115 g) (k0_pay116 g) (k0_pay117 g) (k0_pay118 g)) (k0_pay123 (k0_pay113 k q) (k0_pay114 g) (k0_pay115 g) (k0_pay116 g) (k0_pay117 g) (k0_pay118 g)) (k0_pay124 (k0_pay113 k q)) (k0_pay125 (k0_pay114 g) (k0_pay117 g)) (k0_pay126 (k0_pay115 g) (k0_pay117 g)) (ix2 r l)
    = o (ix2 r l) + att 1536 (masked 5 r (score q k (at_ r 5)) (gates g (at_ r 5))) (lane v l) := by
  obtain ⟨M, hM⟩ : ∃ M, M = masked 5 r (score q k (at_ r 5)) (gates g (at_ r 5)) := ⟨_, rfl⟩
  obtain ⟨A, hA⟩ : ∃ A, A = att 1536 M (lane v l) := ⟨_, rfl⟩
  rw [← hM, ← hA]
  unfold_payloads
  dsimp only
  generalize hs : (concatenate _ _ _ _ : FVec Ideal S256x1536 .f32) = s
  generalize h0 : (select _ _ _ : FVec Ideal S256x256 .f32) = p0 at hs
  generalize h1 : (select _ _ _ : FVec Ideal S256x256 .f32) = p1 at hs
  generalize h2 : (select _ _ _ : FVec Ideal S256x256 .f32) = p2 at hs
  generalize h3 : (select _ _ _ : FVec Ideal S256x256 .f32) = p3 at hs
  generalize h4 : (select _ _ _ : FVec Ideal S256x256 .f32) = p4 at hs
  generalize h5 : (select _ _ _ : FVec Ideal S256x256 .f32) = p5 at hs
  have f : ∀ c : Fin 256, p0 (ix2 r c) = M (0 * 256 + c.val) ∧ p1 (ix2 r c) = M (1 * 256 + c.val) ∧ p2 (ix2 r c) = M (2 * 256 + c.val) ∧ p3 (ix2 r c) = M (3 * 256 + c.val) ∧ p4 (ix2 r c) = M (4 * 256 + c.val) ∧ p5 (ix2 r c) = M (5 * 256 + c.val) := by
    clear hs
    intro c
    rw [hM, ← h0, ← h1, ← h2, ← h3, ← h4, ← h5]
    refine ⟨ranked 0 _ _ _ _ (by omega) (by omega) ?_ ?_, ranked 1 _ _ _ _ (by omega) (by omega) ?_ ?_, ranked 2 _ _ _ _ (by omega) (by omega) ?_ ?_, ranked 3 _ _ _ _ (by omega) (by omega) ?_ ?_, ranked 4 _ _ _ _ (by omega) (by omega) ?_ ?_, owned _ ?_⟩
    all_goals first
    | (pointwise []; exact score_at q k _ _ _ _ (by omega))
    | (pointwise []; simp only [addi_bit]; simp [rank, Finset.sum_range_succ, gates, ext_mk])
  clear h0 h1 h2 h3 h4 h5
  have e : ∀ c : Fin 1536, s (ix2 r c) = M c.val := by
    intro c
    rw [← hs]
    pointwise [f]
    split_ifs <;> congr 1 <;> omega
  clear hs
  pointwise []
  rw [hA]
  refine congrArg _ ?_
  exact att_of_fin _ _ _ _ e fun x => lane_at v l x _

theorem second6 (o : FVec Ideal S256x128 .f32) : k0_pay145 (F := Ideal) o v (k0_pay143 k0_pay3 (k0_pay128 k q) (k0_pay129 g) (k0_pay130 g) (k0_pay131 g) (k0_pay132 g) (k0_pay133 g) (k0_pay134 g) (k0_pay135 k q g) (k0_pay138 (k0_pay136 k q) (Named.named κ "neg" 0xFF7F0000#32) (k0_pay137 g)) (k0_pay139 (k0_pay128 k q) (k0_pay129 g) (k0_pay130 g) (k0_pay131 g) (k0_pay132 g) (k0_pay133 g) (k0_pay134 g)) (k0_pay140 (k0_pay128 k q) (k0_pay129 g) (k0_pay130 g) (k0_pay131 g) (k0_pay132 g) (k0_pay133 g) (k0_pay134 g)) (k0_pay141 (k0_pay128 k q)) (k0_pay142 (k0_pay129 g) (k0_pay133 g))) (k0_pay144 k0_pay3 (k0_pay128 k q) (k0_pay129 g) (k0_pay130 g) (k0_pay131 g) (k0_pay132 g) (k0_pay133 g) (k0_pay134 g) (k0_pay135 k q g) (k0_pay138 (k0_pay136 k q) (Named.named κ "neg" 0xFF7F0000#32) (k0_pay137 g)) (k0_pay139 (k0_pay128 k q) (k0_pay129 g) (k0_pay130 g) (k0_pay131 g) (k0_pay132 g) (k0_pay133 g) (k0_pay134 g)) (k0_pay140 (k0_pay128 k q) (k0_pay129 g) (k0_pay130 g) (k0_pay131 g) (k0_pay132 g) (k0_pay133 g) (k0_pay134 g)) (k0_pay141 (k0_pay128 k q)) (k0_pay142 (k0_pay129 g) (k0_pay133 g))) (ix2 r l)
    = o (ix2 r l) + att 1792 (masked 6 r (score q k (at_ r 6)) (gates g (at_ r 6))) (lane v l) := by
  obtain ⟨M, hM⟩ : ∃ M, M = masked 6 r (score q k (at_ r 6)) (gates g (at_ r 6)) := ⟨_, rfl⟩
  obtain ⟨A, hA⟩ : ∃ A, A = att 1792 M (lane v l) := ⟨_, rfl⟩
  rw [← hM, ← hA]
  unfold_payloads
  dsimp only
  generalize hs : (concatenate _ _ _ _ : FVec Ideal S256x1792 .f32) = s
  generalize h0 : (select _ _ _ : FVec Ideal S256x256 .f32) = p0 at hs
  generalize h1 : (select _ _ _ : FVec Ideal S256x256 .f32) = p1 at hs
  generalize h2 : (select _ _ _ : FVec Ideal S256x256 .f32) = p2 at hs
  generalize h3 : (select _ _ _ : FVec Ideal S256x256 .f32) = p3 at hs
  generalize h4 : (select _ _ _ : FVec Ideal S256x256 .f32) = p4 at hs
  generalize h5 : (select _ _ _ : FVec Ideal S256x256 .f32) = p5 at hs
  generalize h6 : (select _ _ _ : FVec Ideal S256x256 .f32) = p6 at hs
  have f : ∀ c : Fin 256, p0 (ix2 r c) = M (0 * 256 + c.val) ∧ p1 (ix2 r c) = M (1 * 256 + c.val) ∧ p2 (ix2 r c) = M (2 * 256 + c.val) ∧ p3 (ix2 r c) = M (3 * 256 + c.val) ∧ p4 (ix2 r c) = M (4 * 256 + c.val) ∧ p5 (ix2 r c) = M (5 * 256 + c.val) ∧ p6 (ix2 r c) = M (6 * 256 + c.val) := by
    clear hs
    intro c
    rw [hM, ← h0, ← h1, ← h2, ← h3, ← h4, ← h5, ← h6]
    refine ⟨ranked 0 _ _ _ _ (by omega) (by omega) ?_ ?_, ranked 1 _ _ _ _ (by omega) (by omega) ?_ ?_, ranked 2 _ _ _ _ (by omega) (by omega) ?_ ?_, ranked 3 _ _ _ _ (by omega) (by omega) ?_ ?_, ranked 4 _ _ _ _ (by omega) (by omega) ?_ ?_, ranked 5 _ _ _ _ (by omega) (by omega) ?_ ?_, owned _ ?_⟩
    all_goals first
    | (pointwise []; exact score_at q k _ _ _ _ (by omega))
    | (pointwise []; simp only [addi_bit]; simp [rank, Finset.sum_range_succ, gates, ext_mk])
  clear h0 h1 h2 h3 h4 h5 h6
  have e : ∀ c : Fin 1792, s (ix2 r c) = M c.val := by
    intro c
    rw [← hs]
    pointwise [f]
    split_ifs <;> congr 1 <;> omega
  clear hs
  pointwise []
  rw [hA]
  refine congrArg _ ?_
  exact att_of_fin _ _ _ _ e fun x => lane_at v l x _

theorem second7 (o : FVec Ideal S256x128 .f32) : k0_pay167 (F := Ideal) k0_pay3 o v (k0_pay146 k q) (k0_pay147 g) (k0_pay148 g) (k0_pay149 g) (k0_pay150 g) (k0_pay151 g) (k0_pay152 g) (k0_pay153 g) (k0_pay154 k q g) (k0_pay158 (k0_pay148 g) (k0_pay152 g) (k0_pay153 g) (k0_pay155 k q) (k0_pay156 g) (k0_pay157 g)) (k0_pay159 (k0_pay146 k q) (k0_pay147 g) (k0_pay148 g) (k0_pay149 g) (k0_pay150 g) (k0_pay151 g) (k0_pay152 g) (k0_pay153 g)) (k0_pay163 (k0_pay150 g) (k0_pay153 g) (k0_pay160 (k0_pay146 k q)) (k0_pay161 (k0_pay147 g) (k0_pay148 g) (k0_pay149 g) (k0_pay150 g) (k0_pay151 g)) (k0_pay162 (k0_pay150 g) (k0_pay152 g))) (k0_pay164 (k0_pay146 k q) (k0_pay147 g) (k0_pay148 g) (k0_pay149 g) (k0_pay150 g) (k0_pay151 g) (k0_pay152 g) (k0_pay153 g)) (k0_pay165 (k0_pay146 k q)) (k0_pay166 (k0_pay147 g) (k0_pay148 g) (k0_pay149 g) (k0_pay150 g) (k0_pay151 g) (k0_pay152 g)) (ix2 r l)
    = o (ix2 r l) + att 2048 (masked 7 r (score q k (at_ r 7)) (gates g (at_ r 7))) (lane v l) := by
  obtain ⟨M, hM⟩ : ∃ M, M = masked 7 r (score q k (at_ r 7)) (gates g (at_ r 7)) := ⟨_, rfl⟩
  obtain ⟨A, hA⟩ : ∃ A, A = att 2048 M (lane v l) := ⟨_, rfl⟩
  rw [← hM, ← hA]
  unfold_payloads
  dsimp only
  generalize hs : (concatenate _ _ _ _ : FVec Ideal S256x2048 .f32) = s
  generalize h0 : (select _ _ _ : FVec Ideal S256x256 .f32) = p0 at hs
  generalize h1 : (select _ _ _ : FVec Ideal S256x256 .f32) = p1 at hs
  generalize h2 : (select _ _ _ : FVec Ideal S256x256 .f32) = p2 at hs
  generalize h3 : (select _ _ _ : FVec Ideal S256x256 .f32) = p3 at hs
  generalize h4 : (select _ _ _ : FVec Ideal S256x256 .f32) = p4 at hs
  generalize h5 : (select _ _ _ : FVec Ideal S256x256 .f32) = p5 at hs
  generalize h6 : (select _ _ _ : FVec Ideal S256x256 .f32) = p6 at hs
  generalize h7 : (select _ _ _ : FVec Ideal S256x256 .f32) = p7 at hs
  have f : ∀ c : Fin 256, p0 (ix2 r c) = M (0 * 256 + c.val) ∧ p1 (ix2 r c) = M (1 * 256 + c.val) ∧ p2 (ix2 r c) = M (2 * 256 + c.val) ∧ p3 (ix2 r c) = M (3 * 256 + c.val) ∧ p4 (ix2 r c) = M (4 * 256 + c.val) ∧ p5 (ix2 r c) = M (5 * 256 + c.val) ∧ p6 (ix2 r c) = M (6 * 256 + c.val) ∧ p7 (ix2 r c) = M (7 * 256 + c.val) := by
    clear hs
    intro c
    rw [hM, ← h0, ← h1, ← h2, ← h3, ← h4, ← h5, ← h6, ← h7]
    refine ⟨ranked 0 _ _ _ _ (by omega) (by omega) ?_ ?_, ranked 1 _ _ _ _ (by omega) (by omega) ?_ ?_, ranked 2 _ _ _ _ (by omega) (by omega) ?_ ?_, ranked 3 _ _ _ _ (by omega) (by omega) ?_ ?_, ranked 4 _ _ _ _ (by omega) (by omega) ?_ ?_, ranked 5 _ _ _ _ (by omega) (by omega) ?_ ?_, ranked 6 _ _ _ _ (by omega) (by omega) ?_ ?_, owned _ ?_⟩
    all_goals first
    | (pointwise []; exact score_at q k _ _ _ _ (by omega))
    | (pointwise []; simp only [addi_bit]; simp [rank, Finset.sum_range_succ, gates, ext_mk])
  clear h0 h1 h2 h3 h4 h5 h6 h7
  have e : ∀ c : Fin 2048, s (ix2 r c) = M c.val := by
    intro c
    rw [← hs]
    pointwise [f]
    split_ifs <;> congr 1 <;> omega
  clear hs
  pointwise []
  rw [hA]
  refine congrArg _ ?_
  exact att_of_fin _ _ _ _ e fun x => lane_at v l x _

end Cert.AttnIdeal.Value

end
-- ==== Proof.Attn.Pick.lean ====
module

public import proofs.«01_k».proof.Proof.Attn.Row
public import Idealize.ShloMosaic.Lib.SortFacts

@[expose] public section

/-!
# The three best blocks of a stable descending sort

Sorted by their gates in descending order, equal gates in the order of the blocks, the block at place `t` is beaten by
exactly `t` blocks. Where all the gates from block `i` on are −∞, only the first `i` blocks count, and they come first.
-/

noncomputable section

namespace Cert.Attn.Row

open Idealize.ShloMosaic Finset

/-- Block `m` beats block `j`. -/
def beats (g : ℕ → EReal) (m j : ℕ) : Prop := if m < j then g j ≤ g m else if j < m then g j < g m else False

open Classical in
/-- How many of the eight blocks beat block `j`. -/
def place (g : ℕ → EReal) (j : ℕ) : ℕ := ((univ : Finset (Fin 8)).filter fun m => beats g m.val j).card

theorem beats_total (g : ℕ → EReal) (a b : ℕ) (h : a ≠ b) : beats g a b ∨ beats g b a := by
  unfold beats
  rcases lt_or_gt_of_ne h with h | h
  · rw [if_pos h, if_neg (by omega), if_pos h]; exact le_or_gt _ _
  · rw [if_neg (by omega), if_pos h, if_pos h]; exact (le_or_gt _ _).symm

theorem beats_asymm (g : ℕ → EReal) (a b : ℕ) (h : beats g a b) : ¬ beats g b a := by
  unfold beats at *
  rcases lt_trichotomy a b with h' | h' | h'
  · rw [if_pos h'] at h; rw [if_neg (by omega), if_pos h']; exact not_lt.2 h
  · subst h'; simp at h
  · rw [if_neg (by omega), if_pos h'] at h; rw [if_pos h']; exact not_le.2 h

theorem beats_trans (g : ℕ → EReal) (a b c : ℕ) (h1 : beats g a b) (h2 : beats g b c) : beats g a c := by
  unfold beats at *
  split_ifs at * <;> first
    | exact h2.trans h1
    | exact lt_of_le_of_lt h2 h1
    | exact (lt_of_le_of_lt h2 h1).le
    | exact lt_of_lt_of_le h2 h1
    | exact (lt_of_lt_of_le h2 h1).le
    | exact h2.trans h1
    | exact (h2.trans h1).le
    | omega
    | skip
  all_goals
    obtain rfl : a = c := by omega
    first
      | exact absurd (lt_of_lt_of_le h2 h1) (lt_irrefl _)
      | exact absurd (lt_of_le_of_lt h2 h1) (lt_irrefl _)

theorem beats_irrefl (g : ℕ → EReal) (a : ℕ) : ¬ beats g a a := by simp [beats]

open Classical in
/-- On ascending positions, sorting by the gates alone is sorting by who beats whom. -/
theorem stable_beats (g : ℕ → EReal) {n : ℕ} (l : List (Fin n)) (hl : l.Pairwise (· < ·)) :
    stableSort (fun a b : Fin n => decide (g b.val < g a.val)) l = stableSort (fun a b : Fin n => decide (beats g a.val b.val)) l := by
  induction l with
  | nil => rfl
  | cons a l ih =>
    rw [List.pairwise_cons] at hl
    unfold stableSort
    rw [ih hl.2]
    refine insertBefore_congr _ _ _ _ fun b hb => ?_
    have hab : a.val < b.val := hl.1 b ((perm_stableSort _ l).mem_iff.1 hb)
    unfold beats
    rw [if_neg (by omega), if_pos hab]
    congr

/-- One of the first three of eight. -/
def early (t : Fin 3) : Fin 8 := ⟨t.val, by omega⟩

/-- The block at each place of the sorted list. -/
def best (g : ℕ → EReal) (t : Fin 8) : Fin 8 := sortedFrom (fun a b : Fin 8 => decide (g b.val < g a.val)) t

open Classical in
theorem best_eq (g : ℕ → EReal) (t : Fin 8) : best g t = sortedFrom (fun a b : Fin 8 => decide (beats g a.val b.val)) t := by
  unfold best sortedFrom
  rw [List.get_of_eq (show sortPositions 8 _ = sortPositions 8 _ from stable_beats g (List.finRange 8) (List.pairwise_lt_finRange 8))]
  rfl

theorem best_bij (g : ℕ → EReal) : Function.Bijective (best g) := ⟨sortedFrom_injective _, sortedFrom_surjective _⟩

theorem best_order (g : ℕ → EReal) (s t : Fin 8) (h : s < t) : beats g (best g s).val (best g t).val := by
  classical
  have hne : (best g s).val ≠ (best g t).val := fun e => absurd ((best_bij g).1 (Fin.ext e)) (ne_of_lt h)
  have := sortedFrom_noInversion (fun a b : Fin 8 => decide (beats g a.val b.val)) (fun a b : Fin 8 => decide (beats g a.val b.val))
    (fun a b h => by simpa using beats_asymm g _ _ (by simpa using h)) (fun _ _ h => h)
    (fun a b c h1 h2 => by
      simp only [decide_eq_false_iff_not] at h1 h2 ⊢
      intro h3
      by_cases hab : a = b
      · subst hab; exact h2 h3
      by_cases hbc : b = c
      · subst hbc; exact h1 h3
      have h1' := (beats_total g _ _ (fun e => hab (Fin.ext e))).resolve_left h1
      have h2' := (beats_total g _ _ (fun e => hbc (Fin.ext e))).resolve_left h2
      exact beats_asymm g _ _ h3 (beats_trans g _ _ _ h2' h1')) s t h
  rw [← best_eq, ← best_eq, decide_eq_false_iff_not] at this
  exact (beats_total g _ _ hne).resolve_right this

theorem best_iff (g : ℕ → EReal) (s t : Fin 8) : beats g (best g s).val (best g t).val ↔ s < t := by
  refine ⟨fun h => ?_, best_order g s t⟩
  rcases lt_trichotomy s t with h' | h' | h'
  · exact h'
  · subst h'; exact absurd h (beats_irrefl g _)
  · exact absurd h (beats_asymm g _ _ (best_order g t s h'))

theorem place_best (g : ℕ → EReal) (t : Fin 8) : place g (best g t).val = t.val := by
  classical
  unfold place
  have e : ((univ : Finset (Fin 8)).filter fun m => beats g m.val (best g t).val) = (Iio t).map ⟨best g, (best_bij g).1⟩ := by
    ext m
    obtain ⟨s, rfl⟩ := (best_bij g).2 m
    rw [mem_filter, mem_map]
    constructor
    · exact fun h => ⟨s, mem_Iio.2 ((best_iff g s t).1 h.2), rfl⟩
    · rintro ⟨a, ha, e⟩
      obtain rfl := (best_bij g).1 e
      exact ⟨mem_univ _, (best_iff g a t).2 (mem_Iio.1 ha)⟩
  rw [e, card_map, Fin.card_Iio]

variable {g : ℕ → EReal} {i : ℕ} (hi : i ≤ 8) (hg : ∀ m, i ≤ m → m < 8 → g m = ⊥)
include hi hg

theorem rank_place (j : ℕ) (hj : j < i) : rank i g j = place g j := by
  classical
  unfold place rank
  rw [Finset.card_filter, ← Finset.sum_range fun m => if beats g m j then 1 else 0]
  rw [← Finset.sum_subset (Finset.range_subset_range.2 hi)]
  · refine Finset.sum_congr rfl fun m _ => ?_
    unfold beats
    split_ifs <;> simp_all
  · intro m h1 h2
    rw [mem_range] at h1 h2
    unfold beats
    rw [if_neg (show ¬ m < j by omega), if_pos (show j < m by omega), hg m (by omega) h1, if_neg not_lt_bot]

theorem place_ge (j : ℕ) (hj : i ≤ j) (hj8 : j < 8) : i ≤ place g j := by
  classical
  unfold place
  rw [Finset.card_filter, ← Finset.sum_range fun m => if beats g m j then 1 else 0]
  calc i = ∑ m ∈ range i, 1 := by simp
    _ = ∑ m ∈ range i, if beats g m j then 1 else 0 := by
      refine Finset.sum_congr rfl fun m hm => ?_
      rw [mem_range] at hm
      unfold beats
      rw [if_pos (show m < j by omega), hg j hj hj8, if_pos bot_le]
    _ ≤ _ := Finset.sum_le_sum_of_subset (Finset.range_subset_range.2 hi)

theorem best_lt_iff (t : Fin 8) : (best g t).val < i ↔ t.val < i := by
  have h := place_best g t
  constructor
  · intro h'
    rw [← h, ← rank_place hi hg _ h']
    exact rank_lt i g _ h'
  · intro h'
    by_contra hc
    have := place_ge hi hg _ (not_lt.1 hc) (best g t).2
    omega

/-- A block is among the first three picks that count exactly when fewer than three of the first blocks beat it. -/
theorem best_kept (t : Fin 8) : ((best g t).val < i ∧ rank i g (best g t).val < 3) ↔ t.val < i ∧ t.val < 3 := by
  rw [best_lt_iff hi hg]
  refine and_congr_right fun h => ?_
  rw [rank_place hi hg _ ((best_lt_iff hi hg t).2 h), place_best]

/-- A sum over the blocks kept is the sum over the first three picks that count. -/
theorem sum_kept (F : ℕ → EReal) : ∑ j : Fin 8, (if j.val < i ∧ rank i g j.val < 3 then F j.val else 0)
    = ∑ t : Fin 3, if t.val < i then F (best g (early t)).val else 0 := by
  rw [← (best_bij g).sum_comp]
  simp only [best_kept hi hg]
  rw [Fin.sum_univ_eight, Fin.sum_univ_three]
  simp [early]

/-- The blocks kept are the first three picks that count. -/
theorem kept_iff (j : ℕ) (hj : j < 8) : (j < i ∧ rank i g j < 3) ↔ ∃ t : Fin 3, t.val < i ∧ (best g (early t)).val = j := by
  constructor
  · intro h
    obtain ⟨t, ht⟩ := (best_bij g).2 ⟨j, hj⟩
    have e : (best g t).val = j := by rw [ht]
    rw [← e] at h
    have := (best_kept hi hg t).1 h
    exact ⟨⟨t.val, this.2⟩, this.1, e⟩
  · rintro ⟨t, ht, e⟩
    rw [← e]
    exact (best_kept hi hg _).2 ⟨ht, t.2⟩

end Cert.Attn.Row

end
-- ==== Proof.Attn.Soft.lean ====
module

public import proofs.«01_k».proof.Proof.Attn.Pick

@[expose] public section

/-!
# The softmax over the picked blocks and the own block

The softmax over the scores of three picked blocks and of the query's own block, with −∞ in the picks that do not count, is
the softmax over all the keys with −∞ where the query does not attend: the picks that count are the blocks kept. The scores
are real numbers, so the sum of the exponentials is a positive real number.
-/

noncomputable section

namespace Cert.Attn.Row

open Idealize.ShloMosaic Finset

theorem sum_blocks (f : ℕ → EReal) (n : ℕ) : ∑ x ∈ range (n * 256), f x = ∑ j ∈ range n, ∑ c ∈ range 256, f (j * 256 + c) := by
  induction n with
  | zero => simp
  | succ n ih => rw [Finset.sum_range_succ, ← ih, Nat.succ_mul, Finset.sum_range_add]

theorem sum_mul_real {ι : Type} (s : Finset ι) (f : ι → EReal) (c : ℝ) (hc : 0 ≤ c) : ∑ x ∈ s, f x * (c : EReal) = (∑ x ∈ s, f x) * (c : EReal) := by
  classical
  induction s using Finset.induction_on with
  | empty => simp
  | insert a s ha ih =>
    rw [Finset.sum_insert ha, Finset.sum_insert ha, ih,
      EReal.right_distrib_of_nonneg_of_ne_top (EReal.coe_nonneg.2 hc) (EReal.coe_ne_top c)]

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem masked_block (i r : ℕ) (S g : ℕ → EReal) (j c : ℕ) (hc : c < 256) : masked i r S g (j * 256 + c)
    = if j = i then (if c ≤ r then S (j * 256 + c) else ⊥) else if j < i ∧ rank i g j < 3 then S (j * 256 + c) else ⊥ := by
  have h1 : (j * 256 + c) / 256 = j := by omega
  have h2 : (j * 256 + c) % 256 = c := by omega
  rw [masked, h1, h2]

theorem masked_cases (i r : ℕ) (S g : ℕ → EReal) (x : ℕ) : masked i r S g x = S x ∨ masked i r S g x = ⊥ := by
  unfold masked
  split_ifs <;> simp

section real

variable {i r : ℕ} (hi : i < 8) (S g : ℕ → EReal) (hS : ∀ x, x < 2048 → ∃ y : ℝ, S x = y)
include hi hS

/-- The largest score is a real number. -/
theorem top_real : ∃ y : ℝ, (range 2048).sup (masked i r S g) = y := by
  have hlt : (range 2048).sup (masked i r S g) < ⊤ := by
    rw [Finset.sup_lt_iff bot_lt_top]
    intro x hx
    rcases masked_cases i r S g x with e | e
    · obtain ⟨y, hy⟩ := hS x (mem_range.1 hx)
      rw [e, hy]; exact EReal.coe_lt_top y
    · rw [e]; exact bot_lt_top
  have hgt : (range 2048).sup (masked i r S g) ≠ ⊥ := by
    intro h
    have h1 : masked i r S g (i * 256 + 0) ≤ (range 2048).sup (masked i r S g) :=
      Finset.le_sup (f := masked i r S g) (mem_range.2 (by omega))
    obtain ⟨y, hy⟩ := hS (i * 256 + 0) (by omega)
    rw [h, masked_block _ _ _ _ _ _ (by omega), if_pos rfl, if_pos (Nat.zero_le r), hy] at h1
    exact EReal.coe_ne_bot y (le_bot_iff.1 h1)
  exact ⟨_, (EReal.coe_toReal hlt.ne hgt).symm⟩

/-- The exponentials add up to a positive real number. -/
theorem total_real : ∃ l : ℝ, 0 < l ∧
    ∑ x ∈ range 2048, Ideal.exp (masked i r S g x - (range 2048).sup (masked i r S g)) = l := by
  obtain ⟨M, hM⟩ := top_real (r := r) hi S g hS
  rw [hM]
  have h : ∀ x, ∃ y : ℝ, 0 ≤ y ∧ (x < 2048 → Ideal.exp (masked i r S g x - (M : EReal)) = y ∧ (masked i r S g x = S x → 0 < y)) := by
    intro x
    by_cases hx : x < 2048
    · obtain ⟨y, hy⟩ := hS x hx
      rcases masked_cases i r S g x with e | e
      · refine ⟨Real.exp (y - M), (Real.exp_pos _).le, fun _ => ⟨?_, fun _ => Real.exp_pos _⟩⟩
        rw [e, hy, ← EReal.coe_sub]; rfl
      · refine ⟨0, le_rfl, fun _ => ⟨?_, fun e' => ?_⟩⟩
        · rw [e, exp_bot_sub]; rfl
        · rw [e, hy] at e'; exact absurd e'.symm (EReal.coe_ne_bot y)
    · exact ⟨0, le_rfl, fun h => absurd h hx⟩
  choose y h0 h1 using h
  refine ⟨∑ x ∈ range 2048, y x, Finset.sum_pos' (fun x _ => h0 x) ⟨i * 256 + 0, mem_range.2 (by omega), (h1 _ (by omega)).2 ?_⟩, ?_⟩
  · rw [masked_block _ _ _ _ _ _ (by omega), if_pos rfl, if_pos (Nat.zero_le r)]
  · rw [coe_sum]
    exact Finset.sum_congr rfl fun x hx => (h1 x (mem_range.1 hx)).1

theorem att_nothing (v : ℕ → EReal) (hv : ∀ x, v x = 0) : att 2048 (masked i r S g) v = 0 := by
  obtain ⟨l, hl, e⟩ := total_real (r := r) hi S g hS
  rw [att_zero _ _ _ hv, e, Ideal.div_coe hl.ne', zero_mul]

end real

section pick

variable {i r : ℕ} {S g : ℕ → EReal} (hi : i < 8) (hg : ∀ m, i ≤ m → m < 8 → g m = ⊥) (s : ℕ → EReal)
  (hs1 : ∀ (t : Fin 3) (c : ℕ), c < 256 → s (t.val * 256 + c) = if t.val < i then S ((best g (early t)).val * 256 + c) else ⊥)
  (hs2 : ∀ c : ℕ, c < 256 → s (3 * 256 + c) = if c ≤ r then S (i * 256 + c) else ⊥)
include hi hg hs1 hs2

/-- Anything added up over all the keys that a score of −∞ makes zero is added up over the picks and the own block. -/
theorem sum_pick (W : ℕ → EReal → EReal) (hW : ∀ x, W x ⊥ = 0) : ∑ x ∈ range 2048, W x (masked i r S g x)
    = (∑ t : Fin 3, ∑ c ∈ range 256, W ((best g (early t)).val * 256 + c) (s (t.val * 256 + c)))
      + ∑ c ∈ range 256, W (i * 256 + c) (s (3 * 256 + c)) := by
  have hB : ∀ j, ∑ c ∈ range 256, W (j * 256 + c) (masked i r S g (j * 256 + c))
      = (if j < i ∧ rank i g j < 3 then ∑ c ∈ range 256, W (j * 256 + c) (S (j * 256 + c)) else 0)
        + if i = j then ∑ c ∈ range 256, W (i * 256 + c) (s (3 * 256 + c)) else 0 := by
    intro j
    by_cases hj : i = j
    · subst hj
      rw [if_neg (by omega), if_pos rfl, zero_add]
      refine Finset.sum_congr rfl fun c hc => ?_
      rw [masked_block _ _ _ _ _ _ (mem_range.1 hc), if_pos rfl, hs2 c (mem_range.1 hc)]
    · rw [if_neg hj, add_zero]
      split_ifs with h
      · refine Finset.sum_congr rfl fun c hc => ?_
        rw [masked_block _ _ _ _ _ _ (mem_range.1 hc), if_neg (Ne.symm hj), if_pos h]
      · refine Finset.sum_eq_zero fun c hc => ?_
        rw [masked_block _ _ _ _ _ _ (mem_range.1 hc), if_neg (Ne.symm hj), if_neg h, hW]
  rw [show (2048 : ℕ) = 8 * 256 from rfl, sum_blocks (fun x => W x (masked i r S g x)) 8]
  simp only [hB]
  rw [Finset.sum_add_distrib, Finset.sum_ite_eq, if_pos (mem_range.2 hi)]
  congr 1
  rw [Finset.sum_range, sum_kept hi.le hg fun j => ∑ c ∈ range 256, W (j * 256 + c) (S (j * 256 + c))]
  refine Finset.sum_congr rfl fun t _ => ?_
  split_ifs with h
  · refine Finset.sum_congr rfl fun c hc => ?_
    rw [hs1 t c (mem_range.1 hc), if_pos h]
  · refine (Finset.sum_eq_zero fun c hc => ?_).symm
    rw [hs1 t c (mem_range.1 hc), if_neg h, hW]

/-- The largest score is the largest one over the picks and the own block. -/
theorem sup_pick : (range 1024).sup s = (range 2048).sup (masked i r S g) := by
  apply le_antisymm
  · refine Finset.sup_le fun x hx => ?_
    have hx := mem_range.1 hx
    have e : x = x / 256 * 256 + x % 256 := by omega
    by_cases h3 : x / 256 < 3
    · have h := hs1 ⟨x / 256, h3⟩ (x % 256) (by omega)
      dsimp only at h
      rw [← e] at h
      rw [h]
      split_ifs with ht
      · have hk := (kept_iff hi.le hg _ (best g (early ⟨x / 256, h3⟩)).2).2 ⟨⟨x / 256, h3⟩, ht, rfl⟩
        generalize (best g (early ⟨x / 256, h3⟩)).val = j at hk ⊢
        refine le_trans ?_ (Finset.le_sup (f := masked i r S g) (mem_range.2 (show j * 256 + x % 256 < 2048 by omega)))
        rw [masked_block _ _ _ _ _ _ (by omega), if_neg (by omega), if_pos hk]
      · exact bot_le
    · have h := hs2 (x % 256) (by omega)
      rw [show 3 * 256 + x % 256 = x by omega] at h
      rw [h]
      split_ifs with ht
      · refine le_trans ?_ (Finset.le_sup (f := masked i r S g) (mem_range.2 (show i * 256 + x % 256 < 2048 by omega)))
        rw [masked_block _ _ _ _ _ _ (by omega), if_pos rfl, if_pos ht]
      · exact bot_le
  · refine Finset.sup_le fun x hx => ?_
    have hx := mem_range.1 hx
    have e : x = x / 256 * 256 + x % 256 := by omega
    rw [e, masked_block _ _ _ _ _ _ (by omega), ← e]
    split_ifs with h1 h2 h3
    · refine le_trans ?_ (Finset.le_sup (f := s) (mem_range.2 (show 3 * 256 + x % 256 < 1024 by omega)))
      rw [hs2 _ (by omega), if_pos h2, ← h1, ← e]
    · exact bot_le
    · obtain ⟨t, ht, hb⟩ := (kept_iff hi.le hg (x / 256) (by omega)).1 h3
      refine le_trans ?_ (Finset.le_sup (f := s) (mem_range.2 (show t.val * 256 + x % 256 < 1024 by omega)))
      rw [hs1 t _ (by omega), if_pos ht, hb, ← e]
    · exact bot_le

/-- The softmax over the picks and the own block, applied to their values. -/
theorem att_pick (hS : ∀ x, x < 2048 → ∃ y : ℝ, S x = y) (V : ℕ → EReal) (M L : EReal) (hM : M = (range 1024).sup s)
    (hL : L = ∑ x ∈ range 1024, Ideal.exp (s x - M)) :
    (∑ t : Fin 3, ∑ c ∈ range 256, Ideal.div (Ideal.exp (s (t.val * 256 + c) - M)) L * V ((best g (early t)).val * 256 + c))
      + ∑ c ∈ range 256, Ideal.div (Ideal.exp (s (3 * 256 + c) - M)) L * V (i * 256 + c)
    = att 2048 (masked i r S g) V := by
  rw [sup_pick hi hg s hs1 hs2] at hM
  have hL' : L = ∑ x ∈ range 2048, Ideal.exp (masked i r S g x - M) := by
    rw [hL, sum_pick hi hg s hs1 hs2 (fun _ y => Ideal.exp (y - M)) fun _ => exp_bot_sub M,
      show (1024 : ℕ) = 4 * 256 from rfl, sum_blocks (fun x => Ideal.exp (s x - M)) 4, Finset.sum_range_succ, Finset.sum_range]
  obtain ⟨l, hl, e⟩ := total_real (r := r) hi S g hS
  have hLl : L = (l : EReal) := by rw [hL', hM, e]
  have key := sum_pick hi hg s hs1 hs2 (fun x y => Ideal.div (Ideal.exp (y - M)) L * V x) fun x => by
    rw [exp_bot_sub, hLl, Ideal.div_coe hl.ne', zero_mul, zero_mul]
  rw [← key]
  unfold att
  rw [← hM, ← hL', hLl, Ideal.div_coe hl.ne', ← sum_mul_real _ _ _ (by positivity)]
  refine Finset.sum_congr rfl fun x _ => ?_
  rw [Ideal.div_coe hl.ne', mul_right_comm]

end pick

end Cert.Attn.Row

end
-- ==== Proof.Attn.Lanes.lean ====
module

public import proofs.«01_k».proof.Proof.Gen.AttnIdeal.Frame
public import proofs.«01_k».proof.Proof.Attn.Block
public import proofs.«01_k».proof.Proof.Attn.Soft
public import Idealize.ShloMosaic.Lib.Pointwise

@[expose] public section

set_option maxRecDepth 16384

/-!
# The two heads of a block of lanes

The lanes come in two halves of 64, one for each head of the step. A half is picked by setting the other to zero, so sums
over all the lanes are sums over the head's own.
-/

noncomputable section

namespace Cert.AttnIdeal.Value

open Idealize.ShloMosaic Idealize.ShloMosaic.TcCoe Idealize.SL.Sem Cert.AttnIdeal Cert.AttnIdeal.Gen Cert.Attn.Row

/-- Lane `d` of half `w`. -/
def half (w : Fin 2) (d : Fin 64) : Fin 128 := ⟨w.val * 64 + d.val, by omega⟩

/-- A head's products of a query with every key. -/
def headScore (q k : FVec Ideal S2048x128 .bf16) (w : Fin 2) (p : Fin 2048) : ℕ → EReal :=
  ext fun x : Fin 2048 => ∑ d : Fin 64, q (ix2 p (half w d)) * k (ix2 x (half w d))

/-- The mean of a block of keys. -/
def mean (k : FVec Ideal S2048x128 .bf16) (j : Fin 8) (l : Fin 128) : EReal :=
  Ideal.div (∑ c : Fin 256, k (ix2 ⟨j.val * 256 + c.val, by omega⟩ l)) (Ideal.ofBits .f32 1132462080#32)

/-- A head's gates of a query. -/
def headGates (q k : FVec Ideal S2048x128 .bf16) (w : Fin 2) (p : Fin 2048) : ℕ → EReal :=
  ext fun j : Fin 8 => ∑ d : Fin 64, q (ix2 p (half w d)) * mean k j (half w d)

theorem sum_halves (f : Fin 128 → EReal) : ∑ l, f l = ∑ d, f (half 0 d) + ∑ d, f (half 1 d) := by
  refine (Fin.sum_univ_add (a := 64) (b := 64) f).trans ?_
  congr 1 <;> exact Finset.sum_congr rfl fun d _ => congrArg f (Fin.ext (by simp [half]))

theorem mask_bit (a b : Bool) : IntOp.andi (BitVec.ofBool a) (BitVec.ofBool b) = BitVec.ofBool (a && b) := by
  cases a <;> cases b <;> rfl

theorem first_mask : ∀ l : Fin 128, IntOp.andi (IntOp.cmpi .sge (BitVec.ofNat 32 l.val) 0#32) (IntOp.cmpi .slt (BitVec.ofNat 32 l.val) 64#32)
    = BitVec.ofBool (decide (l.val < 64)) := by decide

theorem second_mask : ∀ l : Fin 128, IntOp.andi (IntOp.cmpi .sge (BitVec.ofNat 32 l.val) 64#32) (IntOp.cmpi .slt (BitVec.ofNat 32 l.val) 128#32)
    = BitVec.ofBool (decide (64 ≤ l.val)) := by decide

section heads

variable (x0 x1 x2 : FVec Ideal S2048x128 .bf16) (p : Fin 2048) (l : Fin 128)
  (n : IVec S1x128 32) (hn : ∀ l : Fin 128, n (ix2 0 l) = BitVec.ofNat 32 l.val)

theorem pay5_at : k0_pay5 (F := Ideal) x0 (ix2 p l) = if l.val < 64 then x0 (ix2 p l) else 0 := by
  generalize hM : (if l.val < 64 then x0 (ix2 p l) else 0) = M
  pointwise [k0_pay5, k0_pay4]
  rw [first_mask, select_bool, ← hM]
  simp only [decide_eq_true_eq]

theorem pay6_at : k0_pay6 (F := Ideal) x2 (ix2 p l) = if l.val < 64 then x2 (ix2 p l) else 0 := by
  generalize hM : (if l.val < 64 then x2 (ix2 p l) else 0) = M
  pointwise [k0_pay6, k0_pay4]
  rw [first_mask, select_bool, ← hM]
  simp only [decide_eq_true_eq]

include hn in
theorem pay87_at : k0_pay87 (F := Ideal) x0 n (ix2 p l) = if 64 ≤ l.val then x0 (ix2 p l) else 0 := by
  generalize hM : (if 64 ≤ l.val then x0 (ix2 p l) else 0) = M
  pointwise [k0_pay87, k0_pay86, hn]
  rw [second_mask, select_bool, ← hM]
  simp only [decide_eq_true_eq]

include hn in
theorem pay88_at : k0_pay88 (F := Ideal) x2 n (ix2 p l) = if 64 ≤ l.val then x2 (ix2 p l) else 0 := by
  generalize hM : (if 64 ≤ l.val then x2 (ix2 p l) else 0) = M
  pointwise [k0_pay88, k0_pay86, hn]
  rw [second_mask, select_bool, ← hM]
  simp only [decide_eq_true_eq]

theorem pay2_at (j : Fin 8) : k0_pay2 (F := Ideal) x1 (ix2 j l) = mean x1 j l := by
  unfold mean
  generalize hM : Ideal.div _ _ = M
  pointwise [k0_pay2]
  exact hM

theorem pay7_at (j : Fin 8) : k0_pay7 (F := Ideal) x0 x1 (ix2 p j)
    = ∑ l : Fin 128, if l.val < 64 then k0_pay5 (F := Ideal) x0 (ix2 p l) * mean x1 j l else 0 := by
  simp only [← pay2_at]
  unfold k0_pay7
  generalize k0_pay5 (F := Ideal) x0 = q
  generalize k0_pay2 (F := Ideal) x1 = m
  obtain ⟨M, hM⟩ : ∃ M : EReal, M = ∑ l : Fin 128, if l.val < 64 then (q (ix2 p l) * m (ix2 j l) : EReal) else 0 := ⟨_, rfl⟩
  refine Eq.trans ?_ hM
  pointwise [k0_pay4]
  rw [hM]
  simp only [first_mask, select_bool, decide_eq_true_eq]

include hn in
theorem pay90_at (q : FVec Ideal S2048x128 .bf16) (j : Fin 8) : k0_pay90 (F := Ideal) q (k0_pay89 n (k0_pay2 x1)) (ix2 p j)
    = ∑ l : Fin 128, if 64 ≤ l.val then (q (ix2 p l) * mean x1 j l : EReal) else 0 := by
  simp only [← pay2_at]
  generalize k0_pay2 (F := Ideal) x1 = m
  obtain ⟨M, hM⟩ : ∃ M : EReal, M = ∑ l : Fin 128, if 64 ≤ l.val then (q (ix2 p l) * m (ix2 j l) : EReal) else 0 := ⟨_, rfl⟩
  refine Eq.trans ?_ hM
  pointwise [k0_pay90, k0_pay89, k0_pay86, hn]
  rw [hM]
  simp only [second_mask, select_bool, decide_eq_true_eq]

theorem half_zero (d : Fin 64) : (half 0 d).val < 64 := by simp [half]
theorem half_one (d : Fin 64) : ¬ (half 1 d).val < 64 := by simp [half]

/-- The products of the first head. -/
theorem score_first : score (k0_pay5 (F := Ideal) x0) x1 p = headScore x0 x1 0 p := by
  refine congrArg ext (funext fun x => ?_)
  simp only [pay5_at, sum_halves, half_zero, half_one, if_true, if_false, zero_mul, Finset.sum_const_zero, add_zero]

include hn in
theorem score_second : score (k0_pay87 (F := Ideal) x0 n) x1 p = headScore x0 x1 1 p := by
  refine congrArg ext (funext fun x => ?_)
  simp only [pay87_at x0 _ _ n hn, sum_halves, ← not_lt, half_zero, half_one, not_true, not_false_eq_true, if_true, if_false, zero_mul,
    Finset.sum_const_zero, zero_add]

theorem gates_first : gates (k0_pay7 (F := Ideal) x0 x1) p = headGates x0 x1 0 p := by
  refine congrArg ext (funext fun j => ?_)
  simp only [pay7_at, pay5_at, sum_halves, half_zero, half_one, if_true, if_false, zero_mul, Finset.sum_const_zero, add_zero]

include hn in
theorem gates_second : gates (k0_pay90 (F := Ideal) (k0_pay87 x0 n)
      (k0_pay89 n (k0_pay2 x1))) p = headGates x0 x1 1 p := by
  refine congrArg ext (funext fun j => ?_)
  simp only [pay90_at x1 _ n hn, pay87_at x0 _ _ n hn, sum_halves, ← not_lt, half_zero, half_one, not_true, not_false_eq_true, if_true, if_false, zero_mul,
    Finset.sum_const_zero, zero_add]

theorem lane_first : lane (k0_pay6 (F := Ideal) x2) l = if l.val < 64 then lane x2 l else fun _ => 0 := by
  unfold lane
  simp only [pay6_at]
  split
  · rfl
  · funext x; unfold ext; split <;> rfl

include hn in
theorem lane_second : lane (k0_pay88 (F := Ideal) x2 n) l
    = if l.val < 64 then fun _ => 0 else lane x2 l := by
  unfold lane
  simp only [pay88_at x2 _ _ n hn, ← not_lt, ite_not]
  split
  · funext x; unfold ext; split <;> rfl
  · rfl

end heads

/-- The two heads' contributions to a lane: its own head's attention, and zero. -/
theorem joined (x0 x1 x2 : FVec Ideal S2048x128 .bf16) (p : Fin 2048) (i n r : ℕ) (hi : i < 8) (hn : n = (i + 1) * 256)
    (h0 : ∀ a c, ∃ y : ℝ, x0 (ix2 a c) = (y : EReal)) (h1 : ∀ a c, ∃ y : ℝ, x1 (ix2 a c) = (y : EReal)) (w : Fin 2) (d : Fin 64) :
    att n (masked i r (headScore x0 x1 0 p) (headGates x0 x1 0 p)) (if (half w d).val < 64 then lane x2 (half w d) else fun _ => 0)
      + att n (masked i r (headScore x0 x1 1 p) (headGates x0 x1 1 p)) (if (half w d).val < 64 then fun _ => 0 else lane x2 (half w d))
      = att 2048 (masked i r (headScore x0 x1 w p) (headGates x0 x1 w p)) (lane x2 (half w d)) := by
  have hS : ∀ w x, x < 2048 → ∃ y : ℝ, headScore x0 x1 w p x = (y : EReal) := by
    intro w x hx
    unfold headScore
    rw [ext_mk _ x hx]
    choose f hf using h0 p
    choose g hg using h1 ⟨x, hx⟩
    exact ⟨∑ d, f (half w d) * g (half w d), by simp only [hf, hg, ← EReal.coe_mul, coe_sum]⟩
  have hb : ∀ w x, n ≤ x → masked i r (headScore x0 x1 w p) (headGates x0 x1 w p) x = ⊥ :=
    fun w x hx => masked_bot i r _ _ x (hn ▸ hx)
  rw [att_extend (N := 2048) (by omega) _ _ (hb 0), att_extend (N := 2048) (by omega) _ _ (hb 1)]
  fin_cases w
  · show att 2048 _ (if (half 0 d).val < 64 then _ else _) + att 2048 _ (if (half 0 d).val < 64 then _ else _) = _
    rw [if_pos (half_zero d), if_pos (half_zero d), att_nothing hi _ _ (hS 1) _ fun _ => rfl, add_zero]
    rfl
  · show att 2048 _ (if (half 1 d).val < 64 then _ else _) + att 2048 _ (if (half 1 d).val < 64 then _ else _) = _
    rw [if_neg (half_one d), if_neg (half_one d), att_nothing hi _ _ (hS 0) _ fun _ => rfl, zero_add]
    rfl

end Cert.AttnIdeal.Value

end
-- ==== Proof.Attn.Tile.lean ====
module

public import proofs.«01_k».proof.Proof.Attn.Head0
public import proofs.«01_k».proof.Proof.Attn.Head1
public import proofs.«01_k».proof.Proof.Attn.Lanes
public import Idealize.ShloMosaic.Lib.Pipeline.ValueKit

@[expose] public section

set_option maxRecDepth 16384

/-!
# What a grid point stores

Its eight query blocks, each the sum of the two heads' contributions.
-/

noncomputable section

namespace Cert.AttnIdeal.Value

open Idealize.ShloMosaic Idealize.ShloMosaic.TcCoe Idealize.SL.Sem Cert.AttnIdeal Cert.AttnIdeal.Gen Cert.Attn.Row

/-- The lane numbers. -/
def numbers : IVec S1x128 32 := iota .tc S1x128 32 [1] iota_S1x128_d1_w32

theorem numbers_at : ∀ l : Fin 128, numbers (ix2 0 l) = BitVec.ofNat 32 l.val := by
  intro l
  pointwise [numbers]

section shared

variable (x0 x1 x2 : Vec Ideal S2048x128 .bf16)

/-- The block of attention a lane and a query get. -/
def headRow (w : Fin 2) (d : Fin 64) (i : ℕ) (r : Fin 256) (p : Fin 2048) : EReal :=
  att 2048 (masked i r (headScore x0 x1 w p) (headGates x0 x1 w p)) (lane x2 (half w d))

theorem both (h0 : ∀ a c, ∃ y : ℝ, x0 (ix2 a c) = (y : EReal)) (h1 : ∀ a c, ∃ y : ℝ, x1 (ix2 a c) = (y : EReal)) (w : Fin 2) (d : Fin 64)
    (p : Fin 2048) (r : Fin 256) (i n : ℕ) (hi : i < 8) (hn : n = (i + 1) * 256) :
    att n (masked i r (score (k0_pay5 (F := Ideal) x0) x1 p) (gates (k0_pay7 (F := Ideal) x0 x1) p)) (lane (k0_pay6 (F := Ideal) x2) (half w d))
      + att n (masked i r (score (k0_pay87 (F := Ideal) x0 numbers) x1 p)
          (gates (k0_pay90 (F := Ideal) (k0_pay87 x0 numbers) (k0_pay89 numbers (k0_pay2 x1))) p))
          (lane (k0_pay88 (F := Ideal) x2 numbers) (half w d))
      = headRow x0 x1 x2 w d i r p := by
  rw [score_first, gates_first, lane_first, score_second _ _ _ _ numbers_at, gates_second _ _ _ _ numbers_at,
    lane_second _ _ _ numbers_at]
  exact joined x0 x1 x2 p i n r hi hn h0 h1 w d

end shared

section rounding

variable (y : FVec Ideal S256x128 .f32) (r : Fin 256) (l : Fin 128)

theorem round0 : k0_pay168 (F := Ideal) y (ix2 r l) = y (ix2 r l) := by pointwise [k0_pay168]
theorem round1 : k0_pay169 (F := Ideal) y (ix2 r l) = y (ix2 r l) := by pointwise [k0_pay169]
theorem round2 : k0_pay170 (F := Ideal) y (ix2 r l) = y (ix2 r l) := by pointwise [k0_pay170]
theorem round3 : k0_pay171 (F := Ideal) y (ix2 r l) = y (ix2 r l) := by pointwise [k0_pay171]
theorem round4 : k0_pay172 (F := Ideal) y (ix2 r l) = y (ix2 r l) := by pointwise [k0_pay172]
theorem round5 : k0_pay173 (F := Ideal) y (ix2 r l) = y (ix2 r l) := by pointwise [k0_pay173]
theorem round6 : k0_pay174 (F := Ideal) y (ix2 r l) = y (ix2 r l) := by pointwise [k0_pay174]
theorem round7 : k0_pay1 (F := Ideal) y (ix2 r l) = y (ix2 r l) := by pointwise [k0_pay1]

end rounding

set_option maxHeartbeats 4000000 in
theorem stored (qs ks vs : Vec Ideal S2048x128 .bf16) (h0 : ∀ a c, ∃ y : ℝ, qs (ix2 a c) = (y : EReal))
    (h1 : ∀ a c, ∃ y : ℝ, ks (ix2 a c) = (y : EReal)) (w : Fin 2) (d : Fin 64) (p : Fin 2048) :
    out0_3 (F := Ideal) qs ks vs (ix2 p (half w d)) = headRow qs ks vs w d (p.val / 256) ⟨p.val % 256, by omega⟩ p := by
  unfold_out out0_3
  have hid : ∀ x : Vec Ideal S2048x128 .bf16, View.ld x r0_0 = x := by
    intro x; funext i; idx_vars i; unfold View.ld; blk_ext [] <;> simp [Rect.unit]
  simp only [hid, show (iota .tc S1x128 32 [1] iota_S1x128_d1_w32 : IVec S1x128 32) = numbers from rfl]
  have key : ∀ (z : Fin 2048) (r : Fin 256) (i n : ℕ), i < 8 → n = (i + 1) * 256 → z.val = i * 256 + r.val → p = z →
      att n (masked i r (score (k0_pay5 (F := Ideal) qs) ks z) (gates (k0_pay7 (F := Ideal) qs ks) z)) (lane (k0_pay6 (F := Ideal) vs) (half w d))
      + att n (masked i r (score (k0_pay87 (F := Ideal) qs numbers) ks z)
          (gates (k0_pay90 (F := Ideal) (k0_pay87 qs numbers) (k0_pay89 numbers (k0_pay2 ks))) z))
          (lane (k0_pay88 (F := Ideal) vs numbers) (half w d))
      = headRow qs ks vs w d (p.val / 256) ⟨p.val % 256, by omega⟩ p := by
    intro z r i n hi hn hz hp
    subst hp
    rw [both qs ks vs h0 h1 w d p r i n hi hn]
    have hv : p.val = i * 256 + r.val := hz
    have e1 : p.val / 256 = i := by omega
    have e2 : (⟨p.val % 256, by omega⟩ : Fin 256) = r := Fin.ext (by show p.val % 256 = r.val; omega)
    rw [e1, e2]
  generalize half w d = l at key ⊢
  generalize headRow qs ks vs w d (p.val / 256) ⟨p.val % 256, by omega⟩ p = R at key ⊢
  canon_tiles x q
  all_goals
    idx_vars x
    obtain rfl : l = x1 := Fin.ext q1
  · rw [round7]
    refine (second7 (q := k0_pay87 (F := Ideal) qs numbers) (v := k0_pay88 (F := Ideal) vs numbers)
      (g := k0_pay90 (F := Ideal) (k0_pay87 qs numbers) (k0_pay89 numbers (k0_pay2 ks))) ..).trans ?_
    rw [first7 (q := k0_pay5 (F := Ideal) qs) (v := k0_pay6 (F := Ideal) vs) (g := k0_pay7 (F := Ideal) qs ks)]
    exact key _ _ 7 2048 (by omega) rfl rfl (Fin.ext q0)
  · rw [round6]
    refine (second6 (q := k0_pay87 (F := Ideal) qs numbers) (v := k0_pay88 (F := Ideal) vs numbers)
      (g := k0_pay90 (F := Ideal) (k0_pay87 qs numbers) (k0_pay89 numbers (k0_pay2 ks))) ..).trans ?_
    rw [first6 (q := k0_pay5 (F := Ideal) qs) (v := k0_pay6 (F := Ideal) vs) (g := k0_pay7 (F := Ideal) qs ks)]
    exact key _ _ 6 1792 (by omega) rfl rfl (Fin.ext q0)
  · rw [round5]
    refine (second5 (q := k0_pay87 (F := Ideal) qs numbers) (v := k0_pay88 (F := Ideal) vs numbers)
      (g := k0_pay90 (F := Ideal) (k0_pay87 qs numbers) (k0_pay89 numbers (k0_pay2 ks))) ..).trans ?_
    rw [first5 (q := k0_pay5 (F := Ideal) qs) (v := k0_pay6 (F := Ideal) vs) (g := k0_pay7 (F := Ideal) qs ks)]
    exact key _ _ 5 1536 (by omega) rfl rfl (Fin.ext q0)
  · rw [round4]
    refine (second4 (q := k0_pay87 (F := Ideal) qs numbers) (v := k0_pay88 (F := Ideal) vs numbers)
      (g := k0_pay90 (F := Ideal) (k0_pay87 qs numbers) (k0_pay89 numbers (k0_pay2 ks))) ..).trans ?_
    rw [first4 (q := k0_pay5 (F := Ideal) qs) (v := k0_pay6 (F := Ideal) vs) (g := k0_pay7 (F := Ideal) qs ks)]
    exact key _ _ 4 1280 (by omega) rfl rfl (Fin.ext q0)
  · rw [round3]
    refine (second3 (q := k0_pay87 (F := Ideal) qs numbers) (v := k0_pay88 (F := Ideal) vs numbers)
      (g := k0_pay90 (F := Ideal) (k0_pay87 qs numbers) (k0_pay89 numbers (k0_pay2 ks))) ..).trans ?_
    rw [first3 (q := k0_pay5 (F := Ideal) qs) (v := k0_pay6 (F := Ideal) vs) (g := k0_pay7 (F := Ideal) qs ks)]
    exact key _ _ 3 1024 (by omega) rfl rfl (Fin.ext q0)
  · rw [round2]
    refine (second2 (q := k0_pay87 (F := Ideal) qs numbers) (v := k0_pay88 (F := Ideal) vs numbers)
      (g := k0_pay90 (F := Ideal) (k0_pay87 qs numbers) (k0_pay89 numbers (k0_pay2 ks))) ..).trans ?_
    rw [first2 (q := k0_pay5 (F := Ideal) qs) (v := k0_pay6 (F := Ideal) vs) (g := k0_pay7 (F := Ideal) qs ks)]
    exact key _ _ 2 768 (by omega) rfl rfl (Fin.ext q0)
  · rw [round1]
    refine (second1 (q := k0_pay87 (F := Ideal) qs numbers) (v := k0_pay88 (F := Ideal) vs numbers)
      (g := k0_pay90 (F := Ideal) (k0_pay87 qs numbers) (k0_pay89 numbers (k0_pay2 ks))) ..).trans ?_
    rw [first1 (q := k0_pay5 (F := Ideal) qs) (v := k0_pay6 (F := Ideal) vs) (g := k0_pay7 (F := Ideal) qs ks)]
    exact key _ _ 1 512 (by omega) rfl rfl (Fin.ext q0)
  · rw [round0]
    refine (second0 (q := k0_pay87 (F := Ideal) qs numbers) (v := k0_pay88 (F := Ideal) vs numbers)
      (g := k0_pay90 (F := Ideal) (k0_pay87 qs numbers) (k0_pay89 numbers (k0_pay2 ks))) ..).trans ?_
    rw [first0 (v := k0_pay6 (F := Ideal) vs) (g := k0_pay7 (F := Ideal) qs ks)]
    exact key _ _ 0 256 (by omega) rfl rfl (Fin.ext (by show p.val = 0 * 256 + x0.val; omega))

end Cert.AttnIdeal.Value

end
-- ==== Proof.Attn.RefKeys.lean ====
module

public import proofs.«01_k».proof.Proof.Gen.AttnRefIdeal.Read
public import proofs.«01_k».proof.Proof.Attn.Row
public import Idealize.ShloMosaic.Lib.Pointwise

@[expose] public section

set_option maxRecDepth 16384

/-!
# The reference's queries, keys, values and gates

The three arrays cut into batches, heads and blocks, and the gate of every query and block.
-/

noncomputable section

namespace Cert.AttnRefIdeal.Value

open Idealize.ShloMosaic Idealize.ShloMosaic.TcCoe Idealize.SL.Sem Cert.AttnRefIdeal Cert.AttnRefIdeal.Gen Cert.AttnRefIdeal.Read Cert.Attn.Row

/-- One of the three arrays. -/
abbrev Arr := (⟨S16384x512, .bf16⟩ : BufTy).Contents (Elt Ideal)

/-- The entry of batch `b`, head `h`, position `p`, lane `d`. -/
def cell (x : Arr) (b h : Fin 8) (p : Fin 2048) (d : Fin 64) : EReal :=
  x (ix2 ⟨b.val * 2048 + p.val, by omega⟩ ⟨h.val * 64 + d.val, by omega⟩)

variable (x0 x1 x2 : Arr) (b h : Fin 8) (p : Fin 2048) (j : Fin 8) (c : Fin 256) (d : Fin 64)

theorem query_at : val_main_v2 (F := Ideal) x0 (ix4 b h p d) = cell x0 b h p d := by
  pointwise [val_main_v2, val_main_v1, val_main_v0, cell]

theorem key_at : val_main_v9 (F := Ideal) x1 (ix5 b h j c d) = cell x1 b h ⟨j.val * 256 + c.val, by omega⟩ d := by
  pointwise [val_main_v9, val_main_v5, val_main_v4, val_main_v3, cell]

theorem value_at : val_main_v10 (F := Ideal) x2 (ix5 b h j c d) = cell x2 b h ⟨j.val * 256 + c.val, by omega⟩ d := by
  pointwise [val_main_v10, val_main_v8, val_main_v7, val_main_v6, cell]

theorem block_query_at : val_main_v82 (F := Ideal) x0 (ix5 b h j c d) = cell x0 b h ⟨j.val * 256 + c.val, by omega⟩ d := by
  pointwise [val_main_v82, val_main_v2, val_main_v1, val_main_v0, cell]

/-- The gate of a query and a block: the query times the mean of the block's keys. -/
def gate (x0 x1 : Arr) (b h : Fin 8) (p : Fin 2048) (j : Fin 8) : EReal :=
  ∑ d : Fin 64, cell x0 b h p d * Ideal.div (∑ c : Fin 256, cell x1 b h ⟨j.val * 256 + c.val, by omega⟩ d) (Ideal.ofBits .f32 1132462080#32)

theorem gate_at : val_main_v16 (F := Ideal) x0 x1 (ix4 b h p j) = gate x0 x1 b h p j := by
  pointwise [val_main_v16, val_main_v13, val_main_v12, val_main_v11, val_main_cst, val_main_cst_0, query_at, key_at, gate]

theorem slt_nat (a b : ℕ) (ha : a < 256) (hb : b < 256) :
    IntOp.cmpi .slt (BitVec.ofNat 32 a) (BitVec.ofNat 32 b) = BitVec.ofBool (decide (a < b)) := by
  have h (n : ℕ) (hn : n < 256) : (BitVec.ofNat 32 n).toInt = (n : ℤ) := by
    rw [BitVec.toInt_eq_toNat_of_lt (by rw [BitVec.toNat_ofNat]; omega), BitVec.toNat_ofNat, Nat.mod_eq_of_lt (by omega)]
  show BitVec.ofBool ((BitVec.ofNat 32 a).slt (BitVec.ofNat 32 b)) = _
  rw [BitVec.slt, h a ha, h b hb]
  congr 1
  simp

/-- The block a query lies in. -/
theorem own_block (p : Fin 2048) : val_main_v15 (F := Ideal) (ix1 p) = BitVec.ofNat 32 (p.val / 256) := by
  pointwise [val_main_v15, val_main_call0_v0, val_main_call0_v1, val_main_call0_v2, val_main_call0_v3, val_main_call0_v4, val_main_call0_v5,
    val_main_call0_v6, val_main_call0_v7, val_main_call0_v8, val_main_call0_v9, val_main_call0_v10, val_main_call0_v11, val_main_call0_v12,
    val_main_call0_v13, val_main_call0_c, val_main_call0_c_0, val_main_v14, val_main_c]
  revert p
  decide +kernel

/-- Only the blocks before the query's own have a gate above −∞. -/
theorem masked_gate_at : val_main_v23 (F := Ideal) x0 x1 (ix4 b h p j) = if j.val < p.val / 256 then gate x0 x1 b h p j else ⊥ := by
  pointwise [val_main_call1_v0, val_main_call1_v1, val_main_call1_v2, val_main_cst_1, val_main_v23, val_main_v22, val_main_v21, val_main_v20, val_main_v19, val_main_v18, val_main_v17, own_block, gate_at]
  rw [slt_nat _ _ (by omega) (by omega), select_bool]
  simp only [decide_eq_true_eq]
  rfl

end Cert.AttnRefIdeal.Value

end
-- ==== Proof.Attn.RefPick.lean ====
module

public import proofs.«01_k».proof.Proof.Attn.RefKeys
public import proofs.«01_k».proof.Proof.Attn.Pick
public import Idealize.ShloMosaic.Lib.ValueIdxCore

@[expose] public section

set_option maxRecDepth 16384

/-!
# The reference's picks

The three blocks with the largest gates of every query, and the keys and values gathered from them.
-/

noncomputable section

namespace Cert.AttnRefIdeal.Value

open Idealize.ShloMosaic Idealize.ShloMosaic.TcCoe Idealize.SL.Sem Cert.AttnRefIdeal Cert.AttnRefIdeal.Gen Cert.AttnRefIdeal.Read Cert.Attn.Row

variable (x0 x1 x2 : Arr) (b h : Fin 8) (p : Fin 2048) (j : Fin 8) (t : Fin 3) (c : Fin 256) (d : Fin 64)

/-- The gates of a query, −∞ from its own block on. -/
def gates (x0 x1 : Arr) (b h : Fin 8) (p : Fin 2048) : ℕ → EReal :=
  ext fun j : Fin 8 => if j.val < p.val / 256 then gate x0 x1 b h p j else ⊥

theorem top_at (x : FVec Ideal S8x8x2048x8 .f32) :
    (Host.topK S8x8x2048x3 3 (FloatOps.cmpfTotal .gt) x sliceFits_S8x8x2048x8_S8x8x2048x3).2 (ix4 b h p t)
      = BitVec.ofNat 32 (best (ext fun m : Fin 8 => x (ix4 b h p m)) (early t)).val := by
  have e : ∀ k : Fin 8, (Shape.Idx.along (s := S8x8x2048x8) (ix4 b h p (early t)) (3 : Fin 4) k) = ix4 b h p k := by
    intro k
    funext a
    match a with
    | ⟨0, _⟩ => rfl
    | ⟨1, _⟩ => rfl
    | ⟨2, _⟩ => rfl
    | ⟨3, _⟩ => rfl
  unfold best
  simp only [ext_val]
  have key : ∀ i : S8x8x2048x8.Idx, i = ix4 b h p (early t) →
      iotaInDim S8x8x2048x8 32 (3 : Fin 4) (i.along (3 : Fin 4) (sortedFrom (fun k k' =>
        FloatOps.cmpfTotal CmpDirection.gt (x (i.along (3 : Fin 4) k)) (x (i.along (3 : Fin 4) k')) == 1#1) (i 3)))
      = BitVec.ofNat 32 (sortedFrom (fun a b_1 : Fin 8 => decide (x (ix4 b h p b_1) < x (ix4 b h p a))) (early t)).val := by
    rintro _ rfl
    have f : (fun k k' : Fin 8 => FloatOps.cmpfTotal CmpDirection.gt
        (x (Shape.Idx.along (s := S8x8x2048x8) (ix4 b h p (early t)) (3 : Fin 4) k))
        (x (Shape.Idx.along (s := S8x8x2048x8) (ix4 b h p (early t)) (3 : Fin 4) k')) == 1#1)
      = fun k k' => decide (x (ix4 b h p k') < x (ix4 b h p k)) := by
      funext k k'
      rw [e, e, Ideal.cmpfTotal_def]
      simp only [Ideal.cmp, CmpDirection.ordered]
      generalize decide (x (ix4 b h p k') < x (ix4 b h p k)) = q
      cases q <;> rfl
    exact congrArg (fun F : Fin 8 → Fin 8 → Bool => BitVec.ofNat 32 (sortedFrom F (early t)).val) f
  have hi : ∀ i : S8x8x2048x8.Idx, (∀ a : Fin 4, (i a).val = 0 + ((ix4 b h p t : S8x8x2048x3.Idx) a).val) → i = ix4 b h p (early t) := by
    intro i hi
    funext a
    refine Fin.ext ((hi a).trans ?_)
    match a with
    | ⟨0, _⟩ => exact Nat.zero_add _
    | ⟨1, _⟩ => exact Nat.zero_add _
    | ⟨2, _⟩ => exact Nat.zero_add _
    | ⟨3, _⟩ => exact Nat.zero_add _
  exact key (fun a => ⟨0 + ((ix4 b h p t : S8x8x2048x3.Idx) (a.cast rfl)).val, _⟩) (hi _ fun _ => rfl)

theorem gather_at {α : Type} (x : S8x8x8x256x64.Idx → α) (idx : IVec S8x8x2048x3x3 32)
    (h0 : idx (ix5 b h p t 0) = BitVec.ofNat 32 b.val) (h1 : idx (ix5 b h p t 1) = BitVec.ofNat 32 h.val)
    (h2 : idx (ix5 b h p t 2) = BitVec.ofNat 32 j.val) :
    Host.gather gather_S8x8x8x256x64_S8x8x2048x3x3_S8x8x2048x3x256x64_45_012_n_n_012_4_11125664 x idx (ix6 b h p t c d)
      = x (ix5 b h j c d) := by
  have ht : ∀ n : Fin 8, (BitVec.ofNat 32 n.val).toInt.toNat = n.val := by decide
  have hs : ∀ (k : Fin 3) (f : Fin 3) , k = f → gather_S8x8x8x256x64_S8x8x2048x3x3_S8x8x2048x3x256x64_45_012_n_n_012_4_11125664.siIdx (ix6 b h p t c d) k
      = ix5 b h p t f := by
    rintro k _ rfl
    funext a
    match a with
    | ⟨0, _⟩ => rfl
    | ⟨1, _⟩ => rfl
    | ⟨2, _⟩ => rfl
    | ⟨3, _⟩ => rfl
    | ⟨4, _⟩ => rfl
  unfold Host.gather
  congr 1
  funext a
  refine Fin.ext ?_
  show gather_S8x8x8x256x64_S8x8x2048x3x3_S8x8x2048x3x256x64_45_012_n_n_012_4_11125664.start (ix6 b h p t c d) idx a + gather_S8x8x8x256x64_S8x8x2048x3x3_S8x8x2048x3x256x64_45_012_n_n_012_4_11125664.batchCoord (ix6 b h p t c d) a + gather_S8x8x8x256x64_S8x8x2048x3x3_S8x8x2048x3x256x64_45_012_n_n_012_4_11125664.offCoord (ix6 b h p t c d) a = _
  rw [GatherDims.batchCoord_eq_zero _ _ _ List.not_mem_nil, Nat.add_zero]
  have ha : a = 0 ∨ a = 1 ∨ a = 2 ∨ a = 3 ∨ a = 4 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (Or.inl rfl)))
    | ⟨4, _⟩ => exact Or.inr (Or.inr (Or.inr (Or.inr rfl)))
  rcases ha with rfl | rfl | rfl | rfl | rfl
  · rw [GatherDims.offCoord_eq_zero _ _ _ (fun h => ((GatherDims.mem_sKept _ _).mp h).1 (by decide)), Nat.add_zero]
    unfold GatherDims.start
    rw [dif_pos (by decide)]
    refine (congrArg (fun z : BitVec 32 => min z.toInt.toNat 7) ((congrArg idx (hs 0 0 rfl)).trans h0)).trans ?_
    exact (congrArg (min · 7) (ht b)).trans (Nat.min_eq_left (by omega))
  · rw [GatherDims.offCoord_eq_zero _ _ _ (fun h => ((GatherDims.mem_sKept _ _).mp h).1 (by decide)), Nat.add_zero]
    unfold GatherDims.start
    rw [dif_pos (by decide)]
    refine (congrArg (fun z : BitVec 32 => min z.toInt.toNat 7) ((congrArg idx (hs 1 1 rfl)).trans h1)).trans ?_
    exact (congrArg (min · 7) (ht h)).trans (Nat.min_eq_left (by omega))
  · rw [GatherDims.offCoord_eq_zero _ _ _ (fun h => ((GatherDims.mem_sKept _ _).mp h).1 (by decide)), Nat.add_zero]
    unfold GatherDims.start
    rw [dif_pos (by decide)]
    refine (congrArg (fun z : BitVec 32 => min z.toInt.toNat 7) ((congrArg idx (hs 2 2 rfl)).trans h2)).trans ?_
    exact (congrArg (min · 7) (ht j)).trans (Nat.min_eq_left (by omega))
  · unfold GatherDims.start
    rw [dif_neg (by decide), Nat.zero_add]
    rfl
  · unfold GatherDims.start
    rw [dif_neg (by decide), Nat.zero_add]
    rfl

/-- The picks of a query: the blocks with the largest gates, in order. -/
def pick (x0 x1 : Arr) (b h : Fin 8) (p : Fin 2048) (t : Fin 3) : Fin 8 := best (gates x0 x1 b h p) (early t)

theorem pick_at : val_main_indices (F := Ideal) x0 x1 (ix4 b h p t) = BitVec.ofNat 32 (pick x0 x1 b h p t).val := by
  refine (top_at b h p t _).trans ?_
  unfold pick gates
  simp only [masked_gate_at]

theorem wrap (n : Fin 8) : Scalar.select (IntOp.cmpi .slt (BitVec.ofNat 32 n.val) 0#32) (IntOp.addi (BitVec.ofNat 32 n.val) 8#32)
    (BitVec.ofNat 32 n.val) = BitVec.ofNat 32 n.val := by
  revert n; decide

theorem starts_key :
    val_main_v54 (F := Ideal) x0 x1 (ix5 b h p t 0) = BitVec.ofNat 32 b.val
    ∧ val_main_v54 (F := Ideal) x0 x1 (ix5 b h p t 1) = BitVec.ofNat 32 h.val
    ∧ val_main_v54 (F := Ideal) x0 x1 (ix5 b h p t 2) = BitVec.ofNat 32 (pick x0 x1 b h p t).val := by
  refine ⟨?_, ?_, ?_⟩
  · pointwise [val_main_v54, val_main_v51, val_main_v49, val_main_v38, val_main_v37, val_main_v36, val_main_v35, val_main_v34, val_main_v31,
      val_main_v30, val_main_c_2, val_main_c_3]
    exact wrap b
  · pointwise [val_main_v54, val_main_v52, val_main_v50, val_main_v43, val_main_v42, val_main_v41, val_main_v40, val_main_v39, val_main_v33,
      val_main_v32, val_main_c_4, val_main_c_5]
    exact wrap h
  · pointwise [val_main_v54, val_main_v53, val_main_v48, val_main_v47, val_main_v46, val_main_v45, val_main_v44, pick_at, val_main_c_6, val_main_c_7]
    exact wrap _

theorem starts_value :
    val_main_v76 (F := Ideal) x0 x1 (ix5 b h p t 0) = BitVec.ofNat 32 b.val
    ∧ val_main_v76 (F := Ideal) x0 x1 (ix5 b h p t 1) = BitVec.ofNat 32 h.val
    ∧ val_main_v76 (F := Ideal) x0 x1 (ix5 b h p t 2) = BitVec.ofNat 32 (pick x0 x1 b h p t).val := by
  refine ⟨?_, ?_, ?_⟩
  · pointwise [val_main_v76, val_main_v73, val_main_v71, val_main_v60, val_main_v59, val_main_v58, val_main_v57, val_main_v56, val_main_v31,
      val_main_v30, val_main_c_8, val_main_c_9]
    exact wrap b
  · pointwise [val_main_v76, val_main_v74, val_main_v72, val_main_v65, val_main_v64, val_main_v63, val_main_v62, val_main_v61, val_main_v33,
      val_main_v32, val_main_c_10, val_main_c_11]
    exact wrap h
  · pointwise [val_main_v76, val_main_v75, val_main_v70, val_main_v69, val_main_v68, val_main_v67, val_main_v66, pick_at, val_main_c_12, val_main_c_13]
    exact wrap _

theorem picked_key_at : val_main_v55 (F := Ideal) x0 x1 (ix6 b h p t c d)
    = cell x1 b h ⟨(pick x0 x1 b h p t).val * 256 + c.val, by omega⟩ d := by
  obtain ⟨h0, h1, h2⟩ := starts_key x0 x1 b h p t
  exact (gather_at b h p _ t c d _ _ h0 h1 h2).trans (key_at x1 b h _ c d)

theorem picked_value_at : val_main_v77 (F := Ideal) x0 x1 x2 (ix6 b h p t c d)
    = cell x2 b h ⟨(pick x0 x1 b h p t).val * 256 + c.val, by omega⟩ d := by
  obtain ⟨h0, h1, h2⟩ := starts_value x0 x1 b h p t
  exact (gather_at b h p _ t c d _ _ h0 h1 h2).trans (value_at x2 b h _ c d)

end Cert.AttnRefIdeal.Value

end
-- ==== Proof.Attn.RefScore.lean ====
module

public import proofs.«01_k».proof.Proof.Attn.RefPick
public import Idealize.ShloMosaic.Lib.KernelVsHost

@[expose] public section

set_option maxRecDepth 16384

/-!
# The reference's scores and output

The scores of a query against the picked blocks and its own block side by side, and its output as the softmax of these
scores applied to the values gathered and the block's own values.
-/

noncomputable section

namespace Cert.AttnRefIdeal.Value

open Idealize.ShloMosaic Idealize.ShloMosaic.TcCoe Idealize.SL.Sem Cert.AttnRefIdeal Cert.AttnRefIdeal.Gen Cert.AttnRefIdeal.Read Cert.Attn.Row

variable (x0 x1 x2 : Arr) (b h : Fin 8) (p : Fin 2048) (j : Fin 8) (t : Fin 3) (r c : Fin 256) (d : Fin 64)

/-- A query's product with a key. -/
def product (x0 x1 : Arr) (b h : Fin 8) (p x : Fin 2048) : EReal := ∑ d : Fin 64, cell x0 b h p d * cell x1 b h x d

theorem picked_score_at : val_main_v78 (F := Ideal) x0 x1 (ix5 b h p t c)
    = product x0 x1 b h p ⟨(pick x0 x1 b h p t).val * 256 + c.val, by omega⟩ := by
  pointwise [val_main_v78, query_at, picked_key_at, product]

theorem picked_masked_at : val_main_v80 (F := Ideal) x0 x1 (ix5 b h p t c)
    = if t.val < p.val / 256 then product x0 x1 b h p ⟨(pick x0 x1 b h p t).val * 256 + c.val, by omega⟩ else ⊥ := by
  pointwise [val_main_v80, val_main_call2_v0, val_main_call2_v1, val_main_call2_v2, val_main_cst_14, val_main_v79, val_main_v29, val_main_v28,
    val_main_v27, val_main_v26, val_main_v25, val_main_v24, own_block, picked_score_at]
  rw [slt_nat _ _ (by omega) (by omega), select_bool]
  simp only [decide_eq_true_eq]
  rfl

theorem own_score_at : val_main_v83 (F := Ideal) x0 x1 (ix5 b h j r c)
    = product x0 x1 b h ⟨j.val * 256 + r.val, by omega⟩ ⟨j.val * 256 + c.val, by omega⟩ := by
  pointwise [val_main_v83, block_query_at, key_at, product]

theorem own_masked_at : val_main_v90 (F := Ideal) x0 x1 (ix5 b h j r c)
    = if c.val ≤ r.val then product x0 x1 b h ⟨j.val * 256 + r.val, by omega⟩ ⟨j.val * 256 + c.val, by omega⟩ else ⊥ := by
  pointwise [val_main_v90, val_main_call3_v0, val_main_call3_v1, val_main_call3_v2, val_main_cst_15, val_main_v89, val_main_v88, val_main_v87,
    val_main_v86, val_main_v85, val_main_v84, own_score_at]
  rw [sle_nat _ _ (by omega) (by omega), select_bool]
  simp only [decide_eq_true_eq]
  rfl

/-- A query's scores: the picked blocks', then its own block's. -/
def scores (x0 x1 : Arr) (b h : Fin 8) (p : Fin 2048) : ℕ → EReal := ext fun x : Fin 1024 => val_main_v92 (F := Ideal) x0 x1 (ix4 b h p x)

theorem scores_pick (t : Fin 3) (c : Fin 256) : val_main_v92 (F := Ideal) x0 x1 (ix4 b h p ⟨t.val * 256 + c.val, by omega⟩)
    = if t.val < p.val / 256 then product x0 x1 b h p ⟨(pick x0 x1 b h p t).val * 256 + c.val, by omega⟩ else ⊥ := by
  rw [← picked_masked_at]
  pointwise [val_main_v92, val_main_v81]
  rw [dif_pos (by omega)]

theorem scores_own (j : Fin 8) (r c : Fin 256) :
    val_main_v92 (F := Ideal) x0 x1 (ix4 b h ⟨j.val * 256 + r.val, by omega⟩ ⟨3 * 256 + c.val, by omega⟩)
    = if c.val ≤ r.val then product x0 x1 b h ⟨j.val * 256 + r.val, by omega⟩ ⟨j.val * 256 + c.val, by omega⟩ else ⊥ := by
  rw [← own_masked_at]
  pointwise [val_main_v92, val_main_v91]

/-- The largest of a query's scores. -/
def top (x0 x1 : Arr) (b h : Fin 8) (p : Fin 2048) : EReal := val_main_v95 (F := Ideal) x0 x1 (ix3 b h p)

/-- The sum of the exponentials of a query's scores. -/
def total (x0 x1 : Arr) (b h : Fin 8) (p : Fin 2048) : EReal := val_main_v100 (F := Ideal) x0 x1 (ix3 b h p)

/-- The largest entry of each row. -/
theorem row_max (x : FVec Ideal S8x8x2048x1024 .f32) :
    Host.reduce FloatOps.maximumf x (constant S_ .f32 0xFF800000#32) reducesTo_S8x8x2048x1024_S8x8x2048_d3 h_S_ (ix3 b h p)
    = Finset.fold max (Ideal.ofBits .f32 0xFF800000#32) (fun k : Fin 1024 => x (ix4 b h p k)) Finset.univ := by
  refine (congrFun (hostReduce_maximumf_eq_multiReduction x _ _ _ (by decide) (by decide) (by decide)) _).trans ?_
  pointwise []

theorem top_max : val_main_v93 (F := Ideal) x0 x1 (ix3 b h p)
    = Finset.fold max (Ideal.ofBits .f32 0xFF800000#32) (fun k : Fin 1024 => val_main_v92 (F := Ideal) x0 x1 (ix4 b h p k)) Finset.univ := by
  unfold val_main_v93 val_main_cst_16
  exact row_max b h p _

theorem top_fold : val_main_v93 (F := Ideal) x0 x1 (ix3 b h p) = (Finset.range 1024).sup (scores x0 x1 b h p) := by
  have e : (fun k : Fin 1024 => val_main_v92 (F := Ideal) x0 x1 (ix4 b h p k)) = fun k : Fin 1024 => scores x0 x1 b h p k.val := by
    funext k; unfold scores; rw [ext_val]
  rw [top_max, e]
  exact fold_fin _

theorem floor_at : val_main_v94 (F := Ideal) (ix3 b h p) = (⊥ : EReal) := by
  rw [val_main_v94_apply, val_main_cst_17_apply]
  rfl

theorem top_eq : top x0 x1 b h p = (Finset.range 1024).sup (scores x0 x1 b h p) := by
  rw [← top_fold]
  unfold top
  rw [val_main_v95_apply, floor_at]
  generalize val_main_v93 (F := Ideal) x0 x1 (ix3 b h p) = M
  exact max_eq_right bot_le

theorem exp_at (x : Fin 1024) : val_main_v99 (F := Ideal) x0 x1 (ix4 b h p x)
    = Ideal.exp (scores x0 x1 b h p x.val - top x0 x1 b h p) := by
  unfold top scores
  rw [ext_val]
  pointwise [val_main_v99, val_main_v98, val_main_v97, val_main_v96]

theorem total_eq : total x0 x1 b h p = ∑ x ∈ Finset.range 1024, Ideal.exp (scores x0 x1 b h p x - top x0 x1 b h p) := by
  unfold total
  rw [Finset.sum_range]
  pointwise [val_main_v100, val_main_cst_18, exp_at]

theorem prob_at (x : Fin 1024) : val_main_v103 (F := Ideal) x0 x1 (ix4 b h p x)
    = Ideal.div (Ideal.exp (scores x0 x1 b h p x.val - top x0 x1 b h p)) (total x0 x1 b h p) := by
  unfold total
  pointwise [val_main_v103, val_main_v102, val_main_v101, exp_at]

theorem prob_pick (t : Fin 3) (c : Fin 256) : val_main_v105 (F := Ideal) x0 x1 (ix5 b h p t c)
    = Ideal.div (Ideal.exp (scores x0 x1 b h p (t.val * 256 + c.val) - top x0 x1 b h p)) (total x0 x1 b h p) := by
  pointwise [val_main_v105, val_main_v104, prob_at]

theorem prob_own (j : Fin 8) (r c : Fin 256) : val_main_v107 (F := Ideal) x0 x1 (ix5 b h j r c)
    = Ideal.div (Ideal.exp (scores x0 x1 b h ⟨j.val * 256 + r.val, by omega⟩ (3 * 256 + c.val) - top x0 x1 b h ⟨j.val * 256 + r.val, by omega⟩))
      (total x0 x1 b h ⟨j.val * 256 + r.val, by omega⟩) := by
  pointwise [val_main_v107, val_main_v106, prob_at]

theorem own_part (j : Fin 8) (r : Fin 256) : val_main_v109 (F := Ideal) x0 x1 x2 (ix5 b h j r d)
    = ∑ c : Fin 256, Ideal.div (Ideal.exp (scores x0 x1 b h ⟨j.val * 256 + r.val, by omega⟩ (3 * 256 + c.val) - top x0 x1 b h ⟨j.val * 256 + r.val, by omega⟩))
      (total x0 x1 b h ⟨j.val * 256 + r.val, by omega⟩) * cell x2 b h ⟨j.val * 256 + c.val, by omega⟩ d := by
  pointwise [val_main_v109, prob_own, value_at]

theorem picked_part : val_main_v108 (F := Ideal) x0 x1 x2 (ix4 b h p d)
    = ∑ t : Fin 3, ∑ c : Fin 256, Ideal.div (Ideal.exp (scores x0 x1 b h p (t.val * 256 + c.val) - top x0 x1 b h p)) (total x0 x1 b h p)
      * cell x2 b h ⟨(pick x0 x1 b h p t).val * 256 + c.val, by omega⟩ d := by
  pointwise [val_main_v108, prob_pick, picked_value_at]
  exact Finset.sum_comm

theorem fold_at (p : Fin 2048) :
    val_main_v114 (F := Ideal) x0 x1 x2 (ix2 ⟨b.val * 2048 + p.val, by omega⟩ ⟨h.val * 64 + d.val, by omega⟩)
      = val_main_v111 (F := Ideal) x0 x1 x2 (ix4 b h p d) := by
  unfold val_main_v114 val_main_v113 val_main_v112
  generalize val_main_v111 (F := Ideal) x0 x1 x2 = y
  pointwise []

theorem unblock_at (j : Fin 8) (r : Fin 256) :
    val_main_v110 (F := Ideal) x0 x1 x2 (ix4 b h ⟨j.val * 256 + r.val, by omega⟩ d) = val_main_v109 (F := Ideal) x0 x1 x2 (ix5 b h j r d) := by
  unfold val_main_v110
  generalize val_main_v109 (F := Ideal) x0 x1 x2 = y
  pointwise []

theorem out_at (j : Fin 8) (r : Fin 256) :
    val_main_v114 (F := Ideal) x0 x1 x2 (ix2 ⟨b.val * 2048 + (j.val * 256 + r.val), by omega⟩ ⟨h.val * 64 + d.val, by omega⟩)
      = val_main_v108 (F := Ideal) x0 x1 x2 (ix4 b h ⟨j.val * 256 + r.val, by omega⟩ d) + val_main_v109 (F := Ideal) x0 x1 x2 (ix5 b h j r d) := by
  rw [fold_at x0 x1 x2 b h d ⟨j.val * 256 + r.val, by omega⟩, ← unblock_at]
  exact val_main_v111_apply x0 x1 x2 _

end Cert.AttnRefIdeal.Value

end
-- ==== Proof.Attn.RefRow.lean ====
module

public import proofs.«01_k».proof.Proof.Attn.RefScore
public import proofs.«01_k».proof.Proof.Attn.Soft

@[expose] public section

set_option maxRecDepth 16384

/-!
# The reference's output, one query at a time

With real queries and keys, the reference's output is the block-sparse causal softmax applied to the values.
-/

noncomputable section

namespace Cert.AttnRefIdeal.Value

open Idealize.ShloMosaic Idealize.ShloMosaic.TcCoe Idealize.SL.Sem Cert.AttnRefIdeal Cert.AttnRefIdeal.Gen Cert.AttnRefIdeal.Read Cert.Attn.Row

variable (x0 x1 x2 : Arr) (b h : Fin 8)

/-- A query's products with the keys, as a sequence. -/
def products (x0 x1 : Arr) (b h : Fin 8) (p : Fin 2048) : ℕ → EReal := ext (product x0 x1 b h p)

/-- One lane of the values, as a sequence. -/
def values (x2 : Arr) (b h : Fin 8) (d : Fin 64) : ℕ → EReal := ext fun x : Fin 2048 => cell x2 b h x d

/-- Every entry of an array is a real number. -/
def AllReal (x : Arr) : Prop := ∀ a c, ∃ y : ℝ, x (ix2 a c) = (y : EReal)

theorem sum_real {ι : Type} (s : Finset ι) (f : ι → EReal) (hf : ∀ x, ∃ y : ℝ, f x = (y : EReal)) : ∃ y : ℝ, ∑ x ∈ s, f x = (y : EReal) := by
  classical
  induction s using Finset.induction_on with
  | empty => exact ⟨0, by simp⟩
  | insert a s ha ih =>
    obtain ⟨y, hy⟩ := ih
    obtain ⟨z, hz⟩ := hf a
    exact ⟨z + y, by rw [Finset.sum_insert ha, hy, hz, EReal.coe_add]⟩

theorem products_real (h0 : AllReal x0) (h1 : AllReal x1) (p : Fin 2048) (x : ℕ) (hx : x < 2048) : ∃ y : ℝ, products x0 x1 b h p x = (y : EReal) := by
  unfold products
  rw [ext_mk _ _ hx]
  refine sum_real _ _ fun d => ?_
  obtain ⟨y, hy⟩ := h0 ⟨b.val * 2048 + p.val, by omega⟩ ⟨h.val * 64 + d.val, by omega⟩
  obtain ⟨z, hz⟩ := h1 ⟨b.val * 2048 + x, by omega⟩ ⟨h.val * 64 + d.val, by omega⟩
  exact ⟨y * z, by unfold cell; rw [hy, hz, EReal.coe_mul]⟩

theorem gates_past (p : Fin 2048) (m : ℕ) (h1 : p.val / 256 ≤ m) (h2 : m < 8) : gates x0 x1 b h p m = ⊥ := by
  unfold gates
  rw [ext_mk _ _ h2, if_neg (by show ¬ m < p.val / 256; omega)]

theorem products_at (p : Fin 2048) (x : ℕ) (hx : x < 2048) : product x0 x1 b h p ⟨x, hx⟩ = products x0 x1 b h p x :=
  (ext_mk (product x0 x1 b h p) x hx).symm

theorem values_at (d : Fin 64) (x : ℕ) (hx : x < 2048) : cell x2 b h ⟨x, hx⟩ d = values x2 b h d x :=
  (ext_mk (fun x : Fin 2048 => cell x2 b h x d) x hx).symm

theorem pick_scores (p : Fin 2048) (t : Fin 3) (c : ℕ) (hc : c < 256) : scores x0 x1 b h p (t.val * 256 + c)
    = if t.val < p.val / 256 then products x0 x1 b h p ((best (gates x0 x1 b h p) (early t)).val * 256 + c) else ⊥ := by
  have e := scores_pick x0 x1 b h p t ⟨c, hc⟩
  rw [products_at] at e
  unfold scores
  rw [ext_mk _ _ (by omega)]
  exact e

theorem own_scores (j : Fin 8) (r : Fin 256) (p : Fin 2048) (hp : p = ⟨j.val * 256 + r.val, by omega⟩) (c : ℕ) (hc : c < 256) :
    scores x0 x1 b h p (3 * 256 + c) = if c ≤ r.val then products x0 x1 b h p (j.val * 256 + c) else ⊥ := by
  subst hp
  have e := scores_own x0 x1 b h j r ⟨c, hc⟩
  rw [products_at] at e
  unfold scores
  rw [ext_mk _ _ (by omega)]
  exact e

/-- One query's weights applied to the values. -/
theorem weights_row (h0 : AllReal x0) (h1 : AllReal x1) (V : ℕ → EReal) (j : Fin 8) (r : Fin 256) (p : Fin 2048)
    (hp : p = ⟨j.val * 256 + r.val, by omega⟩) :
    (∑ t : Fin 3, ∑ c ∈ Finset.range 256, Ideal.div (Ideal.exp (scores x0 x1 b h p (t.val * 256 + c) - top x0 x1 b h p)) (total x0 x1 b h p)
        * V ((best (gates x0 x1 b h p) (early t)).val * 256 + c))
      + ∑ c ∈ Finset.range 256, Ideal.div (Ideal.exp (scores x0 x1 b h p (3 * 256 + c) - top x0 x1 b h p)) (total x0 x1 b h p) * V (j.val * 256 + c)
      = att 2048 (masked j.val r.val (products x0 x1 b h p) (gates x0 x1 b h p)) V := by
  have hb : p.val / 256 = j.val := by rw [hp]; show (j.val * 256 + r.val) / 256 = j.val; omega
  have hg := gates_past x0 x1 b h p
  have hs := pick_scores x0 x1 b h p
  have ho := own_scores x0 x1 b h j r p hp
  have hr := products_real x0 x1 b h h0 h1 p
  have ht := top_eq x0 x1 b h p
  have hl := total_eq x0 x1 b h p
  rw [hb] at hg hs
  generalize scores x0 x1 b h p = s at hs ho ht hl ⊢
  generalize top x0 x1 b h p = M at ht hl ⊢
  generalize total x0 x1 b h p = L at hl ⊢
  generalize products x0 x1 b h p = S at hs ho hr ⊢
  generalize gates x0 x1 b h p = g at hs hg ⊢
  exact att_pick j.2 hg s hs ho hr V M L ht hl

theorem picked_sum (p : Fin 2048) (d : Fin 64) : val_main_v108 (F := Ideal) x0 x1 x2 (ix4 b h p d)
    = ∑ t : Fin 3, ∑ c ∈ Finset.range 256, Ideal.div (Ideal.exp (scores x0 x1 b h p (t.val * 256 + c) - top x0 x1 b h p)) (total x0 x1 b h p)
        * values x2 b h d ((best (gates x0 x1 b h p) (early t)).val * 256 + c) := by
  rw [picked_part]
  refine Finset.sum_congr rfl fun t _ => ?_
  rw [Finset.sum_range]
  refine Finset.sum_congr rfl fun c _ => ?_
  rw [values_at]
  rfl

theorem own_sum (j : Fin 8) (r : Fin 256) (p : Fin 2048) (hp : p = ⟨j.val * 256 + r.val, by omega⟩) (d : Fin 64) :
    val_main_v109 (F := Ideal) x0 x1 x2 (ix5 b h j r d)
    = ∑ c ∈ Finset.range 256, Ideal.div (Ideal.exp (scores x0 x1 b h p (3 * 256 + c) - top x0 x1 b h p)) (total x0 x1 b h p)
        * values x2 b h d (j.val * 256 + c) := by
  rw [own_part, ← hp, Finset.sum_range]
  refine Finset.sum_congr rfl fun c _ => ?_
  rw [values_at]

theorem out_row (h0 : AllReal x0) (h1 : AllReal x1) (d : Fin 64) (j : Fin 8) (r : Fin 256) (p : Fin 2048)
    (hp : p = ⟨j.val * 256 + r.val, by omega⟩) :
    val_main_v114 (F := Ideal) x0 x1 x2 (ix2 ⟨b.val * 2048 + (j.val * 256 + r.val), by omega⟩ ⟨h.val * 64 + d.val, by omega⟩)
      = att 2048 (masked j.val r.val (products x0 x1 b h p) (gates x0 x1 b h p)) (values x2 b h d) := by
  rw [out_at, own_sum x0 x1 x2 b h j r p hp d, ← hp, picked_sum]
  exact weights_row x0 x1 b h h0 h1 _ j r p hp

end Cert.AttnRefIdeal.Value

end
-- ==== Proof.Attn.Value.lean ====
module

public import proofs.«01_k».proof.Proof.Attn.Tile
public import proofs.«01_k».proof.Proof.Attn.RefRow
public import Idealize.ShloMosaic.Lib.Pipeline.ValueKit

@[expose] public section

set_option maxRecDepth 16384

/-!
# The attention array

What the kernel's output array holds after the run: the reference's result of the arguments, where queries and keys are
real numbers.
-/

noncomputable section

namespace Cert.AttnIdeal.Value

open Idealize.ShloMosaic Idealize.ShloMosaic.TcCoe Idealize.SL.Sem Cert.AttnIdeal Cert.AttnIdeal.Gen Cert.Attn.Row
open Cert.AttnRefIdeal.Value (Arr cell gate product products values AllReal)
open Cert.AttnRefIdeal.Read (val_main_v114)

/-- Only the gates of earlier blocks matter. -/
theorem rank_congr (i : ℕ) (g g' : ℕ → EReal) (h : ∀ m, m < i → g m = g' m) (j : ℕ) (hj : j < i) : rank i g j = rank i g' j := by
  unfold rank
  refine Finset.sum_congr rfl fun m hm => ?_
  rw [h m (Finset.mem_range.1 hm), h j hj]

theorem masked_congr (i r : ℕ) (S g g' : ℕ → EReal) (h : ∀ m, m < i → g m = g' m) : masked i r S g = masked i r S g' := by
  funext x
  unfold masked
  by_cases hx : x / 256 < i
  · rw [rank_congr i g g' h _ hx]
  · simp only [hx, false_and]

section point

variable (X0 X1 X2 : Arr) (qs ks vs : Vec Ideal S2048x128 .bf16) (b : Fin 8) (n : Fin 4)

/-- The head of half `w` of lane block `n`. -/
def head (w : Fin 2) : Fin 8 := ⟨2 * n.val + w.val, by omega⟩

/-- A block holds the array's rows of batch `b` and the lanes of two heads. -/
def Holds (x : Vec Ideal S2048x128 .bf16) (X : Arr) : Prop :=
  ∀ (p : Fin 2048) (l : Fin 128), x (ix2 p l) = X (ix2 ⟨b.val * 2048 + p.val, by omega⟩ ⟨n.val * 128 + l.val, by omega⟩)

variable {X0 X1 X2 qs ks vs b n}

theorem held {x : Vec Ideal S2048x128 .bf16} {X : Arr} (h : Holds b n x X) (w : Fin 2) (p : Fin 2048) (d : Fin 64) :
    x (ix2 p (half w d)) = cell X b (head n w) p d := by
  rw [h]
  unfold cell
  exact congrArg (fun c => X (ix2 _ c)) (Fin.ext (by show n.val * 128 + (w.val * 64 + d.val) = (2 * n.val + w.val) * 64 + d.val; omega))

theorem held_score (h0 : Holds b n qs X0) (h1 : Holds b n ks X1) (w : Fin 2) (p : Fin 2048) :
    headScore qs ks w p = products X0 X1 b (head n w) p := by
  refine congrArg ext (funext fun x => ?_)
  unfold product
  exact Finset.sum_congr rfl fun d _ => by rw [held h0, held h1]

theorem held_gates (h0 : Holds b n qs X0) (h1 : Holds b n ks X1) (w : Fin 2) (p : Fin 2048) (m : ℕ) (hm : m < p.val / 256) :
    headGates qs ks w p m = Cert.AttnRefIdeal.Value.gates X0 X1 b (head n w) p m := by
  have h8 : m < 8 := by omega
  unfold headGates Cert.AttnRefIdeal.Value.gates
  rw [ext_mk _ m h8, ext_mk _ m h8, if_pos hm]
  unfold gate mean
  exact Finset.sum_congr rfl fun d _ => by simp only [held h0, held h1]

theorem held_lane (h2 : Holds b n vs X2) (w : Fin 2) (d : Fin 64) : lane vs (half w d) = values X2 b (head n w) d :=
  congrArg ext (funext fun x => held h2 w x d)

theorem held_real {x : Vec Ideal S2048x128 .bf16} {X : Arr} (h : Holds b n x X) (a : AllReal X) (p : Fin 2048) (l : Fin 128) :
    ∃ y : ℝ, x (ix2 p l) = (y : EReal) := by
  rw [h]; exact a _ _

theorem linked (h0 : Holds b n qs X0) (h1 : Holds b n ks X1) (h2 : Holds b n vs X2) (a0 : AllReal X0) (a1 : AllReal X1)
    (p : Fin 2048) (l : Fin 128) (R : Fin 16384) (C : Fin 512) (hR : R.val = b.val * 2048 + p.val) (hC : C.val = n.val * 128 + l.val) :
    out0_3 (F := Ideal) qs ks vs (ix2 p l) = val_main_v114 (F := Ideal) X0 X1 X2 (ix2 R C) := by
  obtain ⟨w, d, rfl⟩ : ∃ w d, l = half w d :=
    ⟨⟨l.val / 64, by omega⟩, ⟨l.val % 64, by omega⟩, Fin.ext (by show l.val = l.val / 64 * 64 + l.val % 64; omega)⟩
  have hC' : C.val = n.val * 128 + (w.val * 64 + d.val) := hC
  rw [stored qs ks vs (held_real h0 a0) (held_real h1 a1)]
  unfold headRow
  rw [held_score h0 h1, held_lane h2, masked_congr _ _ _ _ _ (held_gates h0 h1 w p)]
  refine (Cert.AttnRefIdeal.Value.out_row X0 X1 X2 b (head n w) a0 a1 d ⟨p.val / 256, by omega⟩ ⟨p.val % 256, by omega⟩ p
    (Fin.ext (by show p.val = p.val / 256 * 256 + p.val % 256; omega))).symm.trans ?_
  have e1 : (⟨b.val * 2048 + (p.val / 256 * 256 + p.val % 256), by omega⟩ : Fin 16384) = R := Fin.ext (by show b.val * 2048 + (p.val / 256 * 256 + p.val % 256) = R.val; omega)
  have e2 : (⟨(head n w).val * 64 + d.val, by omega⟩ : Fin 512) = C := Fin.ext (by show (2 * n.val + w.val) * 64 + d.val = C.val; omega)
  exact congrArg₂ (fun a c => val_main_v114 (F := Ideal) X0 X1 X2 (ix2 a c)) e1 e2

end point

/-! ## The array -/

variable (m : (ℓ : Loc nD τ sig) → Buf (Elt Ideal) ℓ)

theorem idx : ∀ t : Fin cfg0.N, win0_0.index t = win0_3.index t ∧ win0_1.index t = win0_3.index t ∧ win0_2.index t = win0_3.index t :=
  (by decide +kernel : ∀ t : Fin grid0.N, _)

theorem rows : ∀ t : Fin cfg0.N, win0_3.index t 0 < 8 ∧ win0_3.index t 1 < 4 := (by decide +kernel : ∀ t : Fin grid0.N, _)

section reads

variable (c : Dev nD) (t : Fin cfg0.N)

theorem readQ : Holds ⟨_, (rows t).1⟩ ⟨_, (rows t).2⟩ (iblk m c 0 t) (m ((c.tc : Thread nD τ).loc main_arg0)) := by
  intro p l
  obtain ⟨e0, e1, e2⟩ := idx t
  rw [← V_main_arg0 m c]
  blk_ext [iblk, e0]

theorem readK : Holds ⟨_, (rows t).1⟩ ⟨_, (rows t).2⟩ (iblk m c 1 t) (m ((c.tc : Thread nD τ).loc main_arg1)) := by
  intro p l
  obtain ⟨e0, e1, e2⟩ := idx t
  rw [← V_main_arg1 m c]
  blk_ext [iblk, e1]

theorem readV : Holds ⟨_, (rows t).1⟩ ⟨_, (rows t).2⟩ (iblk m c 2 t) (m ((c.tc : Thread nD τ).loc main_arg2)) := by
  intro p l
  obtain ⟨e0, e1, e2⟩ := idx t
  rw [← V_main_arg2 m c]
  blk_ext [iblk, e2]

end reads

theorem final (c : Dev nD) (a0 : AllReal (m ((c.tc : Thread nD τ).loc main_arg0))) (a1 : AllReal (m ((c.tc : Thread nD τ).loc main_arg1))) :
    (dats m 0 c).arrAt 3 (cfgs 0).N
      = val_main_v114 (F := Ideal) (m ((c.tc : Thread nD τ).loc main_arg0)) (m ((c.tc : Thread nD τ).loc main_arg1))
          (m ((c.tc : Thread nD τ).loc main_arg2)) := by
  refine (dats m 0 c).arrAt_eq_of_covers 3 _ (by decide +kernel) fun t _ y => ?_
  blk_simp; rw [after0_3]
  obtain ⟨hb, hn⟩ := rows t
  idx_vars y
  have he : (((View.whole main_v0).slice (win0_3.rect t)).emb (ix2 y0 y1))
      = ix2 (⟨win0_3.index t 0 * 2048 + y0.val, by omega⟩ : Fin 16384) (⟨win0_3.index t 1 * 128 + y1.val, by omega⟩ : Fin 512) := by blk_ext []
  rw [he]
  exact linked (readQ m c t) (readK m c t) (readV m c t) a0 a1 y0 y1 _ _ rfl rfl

end Cert.AttnIdeal.Value

end
-- ==== Proof.Attn.Finite.lean ====
module

public import proofs.«01_k».proof.Proof.Gen.Pre_finite_qk
public import proofs.«01_k».proof.Proof.Attn.Value
public import Idealize.ShloMosaic.Lib.Pointwise

@[expose] public section

/-! # The precondition: queries and keys are real numbers -/

noncomputable section

namespace Cert.AttnIdeal.Value

open Idealize.ShloMosaic Idealize.ShloMosaic.TcCoe Idealize.SL.Sem
open Cert.AttnRefIdeal.Value (Arr AllReal)

/-- The top of the format's range reads as +∞. -/
theorem top_word : Ideal.ofBits .f32 0x7F800000#32 = (⊤ : EReal) := rfl

theorem real_of_abs (x : EReal) (h : max x (-x) < ⊤) : ∃ y : ℝ, x = (y : EReal) := by
  induction x using EReal.rec with
  | bot => simp at h
  | coe y => exact ⟨y, rfl⟩
  | top => simp at h

theorem bits (x y : EReal) (h : IntOp.andi (BitVec.ofBool (decide (max x (-x) < ⊤))) (BitVec.ofBool (decide (max y (-y) < ⊤))) = 1#1) :
    (∃ z : ℝ, x = (z : EReal)) ∧ ∃ z : ℝ, y = (z : EReal) := by
  by_cases hx : max x (-x) < ⊤
  · by_cases hy : max y (-y) < ⊤
    · exact ⟨real_of_abs x hx, real_of_abs y hy⟩
    · rw [decide_eq_true hx, decide_eq_false hy] at h; exact absurd h (by decide)
  · rw [decide_eq_false hx] at h
    exact absurd h (by cases decide (max y (-y) < ⊤) <;> decide)

theorem finite (x0 x1 x2 : Arr) (h : Cert.Pre_finite_qk.fn (F := Ideal) x0 x1 x2 = fun _ => 1#1) : AllReal x0 ∧ AllReal x1 := by
  have key : ∀ (a : Fin 16384) (c : Fin 512), (∃ z : ℝ, x0 (ix2 a c) = (z : EReal)) ∧ ∃ z : ℝ, x1 (ix2 a c) = (z : EReal) := by
    intro a c
    refine bits _ _ ?_
    have e := congrFun h (ix2 a c)
    rw [← e]
    simp only [← top_word]
    rfl
  exact ⟨fun a c => (key a c).1, fun a c => (key a c).2⟩

end Cert.AttnIdeal.Value

end
-- ==== Proof.Tail.Row.lean ====
/- One row (one token) of the layer's tail, as functions of extended reals: the residual row after the output projection,
   the SwiGLU channel mixer, the gated per-layer input, and the final norm. Both programs are read in these words. -/
module

public import Idealize.ShloMosaic.Lib.Pointwise

@[expose] public section

noncomputable section

namespace Cert.TailRow

open Idealize.ShloMosaic
open scoped BigOperators

/-- A row divided by the root of its mean square (with the small constant under the root), scaled by `g`. -/
def rms (h g : Fin 1024 → EReal) (l : Fin 1024) : EReal :=
  h l * Ideal.rsqrt (Ideal.div (∑ k, h k * h k) (Ideal.ofBits .f32 0x44800000#32) + Ideal.ofBits .f32 0x358637BD#32) * g l

/-- The residual row plus the output projection of the two head groups' rows. -/
def mixed (x : Fin 1024 → EReal) (c a : Fin 512 → EReal) (w : Fin 1024 → Fin 1024 → EReal) (l : Fin 1024) : EReal :=
  x l + (∑ k : Fin 512, c k * w ⟨k.val, by omega⟩ l) + ∑ k : Fin 512, a k * w ⟨512 + k.val, by omega⟩ l

/-- The two projections of the normed row: gate (the first 2816 columns) and value (the rest). -/
def up (h g : Fin 1024 → EReal) (w : Fin 1024 → Fin 5632 → EReal) (f : Fin 5632) : EReal :=
  ∑ k, rms h g k * w k f

/-- The row after the SwiGLU channel mixer. -/
def ffn (h g : Fin 1024 → EReal) (wup : Fin 1024 → Fin 5632 → EReal) (wdn : Fin 2816 → Fin 1024 → EReal) (l : Fin 1024) : EReal :=
  h l + ∑ f : Fin 2816, up h g wup ⟨f.val, by omega⟩ * Ideal.logistic (up h g wup ⟨f.val, by omega⟩)
    * up h g wup ⟨2816 + f.val, by omega⟩ * wdn f l

/-- The row after the per-layer input has been added through its gate. -/
def gated (h g : Fin 1024 → EReal) (wg : Fin 1024 → Fin 1024 → EReal) (p : Fin 256 → EReal) (wp : Fin 256 → Fin 1024 → EReal)
    (l : Fin 1024) : EReal :=
  h l + Ideal.logistic (∑ k, rms h g k * wg k l) * ∑ k, p k * wp k l

end Cert.TailRow

end
-- ==== Proof.Tail.Kernel.lean ====
/- What the tail kernel's body computes from one block of rows, read at an index. -/
module

public import proofs.«01_k».proof.Proof.Gen.TailIdeal.Skeleton
public import proofs.«01_k».proof.Proof.Tail.Row

@[expose] public section

set_option maxRecDepth 16384

noncomputable section

namespace Cert.TailIdeal.Value

open Idealize.ShloMosaic Idealize.ShloMosaic.TcCoe Idealize.SL.Sem Cert.TailIdeal Cert.TailIdeal.Gen
open Cert.TailRow

/-- The first half of the body: the row after the output projection and the channel mixer. -/
theorem pay2_apply (x : FVec Ideal S256x1024 .f32) (cv : FVec Ideal S256x512 .bf16) (w1 : FVec Ideal S512x1024 .bf16)
    (av : FVec Ideal S256x512 .bf16) (w2 : FVec Ideal S512x1024 .bf16) (g : FVec Ideal S1x1024 .f32)
    (wup : FVec Ideal S1024x5632 .bf16) (wdn : FVec Ideal S2816x1024 .bf16) (W : Fin 1024 → Fin 1024 → EReal)
    (h1 : ∀ (k : Fin 512) (l : Fin 1024), w1 (ix2 k l) = W ⟨k.val, by omega⟩ l)
    (h2 : ∀ (k : Fin 512) (l : Fin 1024), w2 (ix2 k l) = W ⟨512 + k.val, by omega⟩ l)
    (r : Fin 256) (l : Fin 1024) :
    k0_pay2 (F := Ideal) x cv w1 av w2 g wup wdn (ix2 r l)
      = ffn (mixed (fun k => x (ix2 r k)) (fun k => cv (ix2 r k)) (fun k => av (ix2 r k)) W)
          (fun k => g (ix2 0 k)) (fun k f => wup (ix2 k f)) (fun f k => wdn (ix2 f k)) l := by
  pointwise [k0_pay2, ffn, up, rms, mixed, h1, h2]

/-- The second half: the gated per-layer input and the final norm. -/
theorem pay1_apply (h : FVec Ideal S256x1024 .f32) (gp : FVec Ideal S1x1024 .f32) (wg : FVec Ideal S1024x1024 .bf16)
    (p : FVec Ideal S256x256 .f32) (wp : FVec Ideal S256x1024 .bf16) (gf : FVec Ideal S1x1024 .f32) (r : Fin 256) (l : Fin 1024) :
    k0_pay1 (F := Ideal) h gp wg p wp gf (ix2 r l)
      = rms (gated (fun k => h (ix2 r k)) (fun k => gp (ix2 0 k)) (fun k l => wg (ix2 k l)) (fun k => p (ix2 r k))
          (fun k l => wp (ix2 k l))) (fun k => gf (ix2 0 k)) l := by
  pointwise [k0_pay1, gated, rms]

end Cert.TailIdeal.Value

end
-- ==== Proof.Tail.Stage.lean ====
/- The tail's reference as four stages of whole arrays (the output projection, the channel mixer, the gated per-layer
   input, the norm), and its run read back in these words: the line of operations is cut after each stage, so that a
   stage's array is carried as one name. -/
module

public import proofs.«01_k».proof.Proof.Gen.TailRefIdeal
public import Idealize.ShloMosaic.Lib.Claim
public import Idealize.ShloMosaic.Lib.Pointwise

@[expose] public section

set_option maxRecDepth 16384

noncomputable section

namespace Cert.TailRefIdeal.Row

open Idealize.ShloMosaic Idealize.ShloMosaic.TcCoe Idealize.SL.Sem Idealize.ShloMosaic.StableHlo Cert.TailRefIdeal Cert.TailRefIdeal.Gen

/-- Each row over the root of its mean square, times `g`. -/
def normed (h : FVec Ideal S16384x1024 .f32) (g : FVec Ideal S1x1024 .f32) : FVec Ideal S16384x1024 .f32 :=
  mulf (mulf h (broadcastInDim S16384x1024 ![0, 1] bcast_S16384x1_S16384x1024_0_1
      (Host.rsqrt (addf (Host.divf
        (broadcastInDim S16384x1 ![0] bcast_S16384_S16384x1_0
          (Host.reduceAdd (mulf h h) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 g)

/-- The residual stream plus the output projection of the two head groups side by side. -/
def projected (x : FVec Ideal S16384x1024 .f32) (c a : FVec Ideal S16384x512 .bf16) (w : FVec Ideal S1024x1024 .bf16) :
    FVec Ideal S16384x1024 .f32 :=
  addf x (Host.dotGeneral dot_S16384x1024_S1024x1024_S16384x1024_1_0_0_1_n_n none
    (concatenate S16384x1024 1 [⟨S16384x512, extf .f32 c bitsLt_bf16_f32⟩, ⟨S16384x512, extf .f32 a bitsLt_bf16_f32⟩]
      concatenates_S16384x512_S16384x512_S16384x1024_d1)
    (extf .f32 w bitsLt_bf16_f32))

/-- The two projections of the normed rows. -/
def upped (h : FVec Ideal S16384x1024 .f32) (g : FVec Ideal S1x1024 .f32) (w : FVec Ideal S1024x5632 .bf16) :
    FVec Ideal S16384x5632 .f32 :=
  Host.dotGeneral dot_S16384x1024_S1024x5632_S16384x5632_1_0_0_1_n_n none (normed h g) (extf .f32 w bitsLt_bf16_f32)

/-- `u * sigmoid u`. -/
def silu (u : FVec Ideal S16384x2816 .f32) : FVec Ideal S16384x2816 .f32 :=
  mulf u (Host.divf (broadcastInDim S16384x2816 ![] bcast_S_S16384x2816 (constant S_ .f32 0x3F800000#32))
    (addf (broadcastInDim S16384x2816 ![] bcast_S_S16384x2816 (constant S_ .f32 0x3F800000#32)) (Host.exp (Host.negf u))))

/-- The channel mixer added to the residual stream. -/
def mlp (h : FVec Ideal S16384x1024 .f32) (g : FVec Ideal S1x1024 .f32) (wup : FVec Ideal S1024x5632 .bf16)
    (wdn : FVec Ideal S2816x1024 .bf16) : FVec Ideal S16384x1024 .f32 :=
  addf h (Host.dotGeneral dot_S16384x2816_S2816x1024_S16384x1024_1_0_0_1_n_n none
    (mulf (silu (extractStridedSlice S16384x2816 ![0, 0] (upped h g wup) slices_S16384x5632_S16384x2816_0_0))
      (extractStridedSlice S16384x2816 ![0, 2816] (upped h g wup) slices_S16384x5632_S16384x2816_0_2816))
    (extf .f32 wdn bitsLt_bf16_f32))

/-- The per-layer input added through its gate. -/
def layerInput (h : FVec Ideal S16384x1024 .f32) (g : FVec Ideal S1x1024 .f32) (wg : FVec Ideal S1024x1024 .bf16)
    (p : FVec Ideal S16384x256 .f32) (wp : FVec Ideal S256x1024 .bf16) : FVec Ideal S16384x1024 .f32 :=
  addf h (mulf
    (Host.divf (broadcastInDim S16384x1024 ![] bcast_S_S16384x1024 (constant S_ .f32 0x3F800000#32))
      (addf (broadcastInDim S16384x1024 ![] bcast_S_S16384x1024 (constant S_ .f32 0x3F800000#32))
        (Host.exp (Host.negf (Host.dotGeneral dot_S16384x1024_S1024x1024_S16384x1024_1_0_0_1_n_n none (normed h g)
          (extf .f32 wg bitsLt_bf16_f32))))))
    (Host.dotGeneral dot_S16384x256_S256x1024_S16384x1024_1_0_0_1_n_n none p (extf .f32 wp bitsLt_bf16_f32)))

/-- A line of operations read after its first `n` and then the rest. -/
theorem after_cut (n : ℕ) (l : List (HloOp τ sig (Elt Ideal))) (V : Valuation τ sig (Elt Ideal)) :
    after l V = after (l.drop n) (after (l.take n) V) := by
  induction l generalizing n V with
  | nil => simp
  | cons op l ih =>
    cases n with
    | zero => rfl
    | succ n => simpa using ih n _

/-- The whole tail: the stages one after another. -/
def whole (x : FVec Ideal S16384x1024 .f32) (c a : FVec Ideal S16384x512 .bf16) (p : FVec Ideal S16384x256 .f32)
    (w : FVec Ideal S1024x1024 .bf16) (gf : FVec Ideal S1x1024 .f32) (wup : FVec Ideal S1024x5632 .bf16)
    (wdn : FVec Ideal S2816x1024 .bf16) (gp : FVec Ideal S1x1024 .f32) (wg : FVec Ideal S1024x1024 .bf16)
    (wp : FVec Ideal S256x1024 .bf16) (gz : FVec Ideal S1x1024 .f32) : FVec Ideal S16384x1024 .f32 :=
  normed (layerInput (mlp (projected x c a w) gf wup wdn) gp wg p wp) gz

set_option maxHeartbeats 2000000 in
/-- The reference's result is the stages of its arguments, and its arguments end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62)
        = whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine θ_run_mono (run_hlo _ _ (by hlo_seq) (by decide) (by decide) (by simp)
      (by intro _ h; (repeat (cases h with | head => rfl | tail _ h => ?_)); exact nomatch h) _ _) fun r h c => ?_
  simp only [TRef.binary, TRef.nullary, TRef.unary, TRef.toBuf, TRef.ofBuf, cast_eq] at h
  refine ⟨?_, (h c main_arg0).trans ?_, (h c main_arg1).trans ?_, (h c main_arg2).trans ?_, (h c main_arg3).trans ?_, (h c main_arg4).trans ?_, (h c main_arg5).trans ?_, (h c main_arg6).trans ?_, (h c main_arg7).trans ?_, (h c main_arg8).trans ?_, (h c main_arg9).trans ?_, (h c main_arg10).trans ?_, (h c main_arg11).trans ?_⟩
  rotate_left
  iterate 12
    · clear h; after_results_simp <;> rfl
  rw [h c main_v62]
  clear h
  have hm : ∀ b, m ((c.tc : Thread nD τ).loc b) = launchContents m c (Proc.devRef .tc b) := fun b => rfl
  simp only [hm]
  generalize launchContents m c = V
  rw [after_cut 6]
  simp only [List.take_succ_cons, List.take_zero, List.drop_succ_cons, List.drop_zero]
  generalize hW1 : after _ V = W₁
  have s1 : W₁ (Proc.devRef .tc main_v5) = projected (V (Proc.devRef .tc main_arg0)) (V (Proc.devRef .tc main_arg1)) (V (Proc.devRef .tc main_arg2)) (V (Proc.devRef .tc main_arg4)) := by
    subst hW1; after_results_simp <;> rfl
  have a1_3 : W₁ (Proc.devRef .tc main_arg3) = V (Proc.devRef .tc main_arg3) := by
    subst hW1; after_results_simp <;> rfl
  have a1_5 : W₁ (Proc.devRef .tc main_arg5) = V (Proc.devRef .tc main_arg5) := by
    subst hW1; after_results_simp <;> rfl
  have a1_6 : W₁ (Proc.devRef .tc main_arg6) = V (Proc.devRef .tc main_arg6) := by
    subst hW1; after_results_simp <;> rfl
  have a1_7 : W₁ (Proc.devRef .tc main_arg7) = V (Proc.devRef .tc main_arg7) := by
    subst hW1; after_results_simp <;> rfl
  have a1_8 : W₁ (Proc.devRef .tc main_arg8) = V (Proc.devRef .tc main_arg8) := by
    subst hW1; after_results_simp <;> rfl
  have a1_9 : W₁ (Proc.devRef .tc main_arg9) = V (Proc.devRef .tc main_arg9) := by
    subst hW1; after_results_simp <;> rfl
  have a1_10 : W₁ (Proc.devRef .tc main_arg10) = V (Proc.devRef .tc main_arg10) := by
    subst hW1; after_results_simp <;> rfl
  have a1_11 : W₁ (Proc.devRef .tc main_arg11) = V (Proc.devRef .tc main_arg11) := by
    subst hW1; after_results_simp <;> rfl
  clear hW1
  rw [after_cut 32]
  simp only [List.take_succ_cons, List.take_zero, List.drop_succ_cons, List.drop_zero]
  generalize hW2 : after _ W₁ = W₂
  have s2 : W₂ (Proc.devRef .tc main_v26) = mlp (W₁ (Proc.devRef .tc main_v5)) (W₁ (Proc.devRef .tc main_arg5)) (W₁ (Proc.devRef .tc main_arg6)) (W₁ (Proc.devRef .tc main_arg7)) := by
    subst hW2; after_results_simp <;> rfl
  have a2_3 : W₂ (Proc.devRef .tc main_arg3) = W₁ (Proc.devRef .tc main_arg3) := by
    subst hW2; after_results_simp <;> rfl
  have a2_8 : W₂ (Proc.devRef .tc main_arg8) = W₁ (Proc.devRef .tc main_arg8) := by
    subst hW2; after_results_simp <;> rfl
  have a2_9 : W₂ (Proc.devRef .tc main_arg9) = W₁ (Proc.devRef .tc main_arg9) := by
    subst hW2; after_results_simp <;> rfl
  have a2_10 : W₂ (Proc.devRef .tc main_arg10) = W₁ (Proc.devRef .tc main_arg10) := by
    subst hW2; after_results_simp <;> rfl
  have a2_11 : W₂ (Proc.devRef .tc main_arg11) = W₁ (Proc.devRef .tc main_arg11) := by
    subst hW2; after_results_simp <;> rfl
  clear hW2
  rw [after_cut 29]
  simp only [List.take_succ_cons, List.take_zero, List.drop_succ_cons, List.drop_zero]
  generalize hW3 : after _ W₂ = W₃
  have s3 : W₃ (Proc.devRef .tc main_v50) = layerInput (W₂ (Proc.devRef .tc main_v26)) (W₂ (Proc.devRef .tc main_arg8)) (W₂ (Proc.devRef .tc main_arg9)) (W₂ (Proc.devRef .tc main_arg3)) (W₂ (Proc.devRef .tc main_arg10)) := by
    subst hW3; after_results_simp <;> rfl
  have a3_11 : W₃ (Proc.devRef .tc main_arg11) = W₂ (Proc.devRef .tc main_arg11) := by
    subst hW3; after_results_simp <;> rfl
  clear hW3
  refine Eq.trans (b := normed (W₃ (Proc.devRef .tc main_v50)) (W₃ (Proc.devRef .tc main_arg11))) (by after_results_simp <;> rfl) ?_
  rw [s3, s2, s1]
  simp only [a1_3, a1_5, a1_6, a1_7, a1_8, a1_9, a1_10, a1_11, a2_3, a2_8, a2_9, a2_10, a2_11, a3_11]
  rfl

/-- The reference declares no semaphore: every counter of the machine reads zero. -/
theorem counters (x : GSem nD τ sig → ℤ) : x = fun _ => 0 := by
  funext s
  obtain ⟨_, s⟩ := s
  rcases s with i | i <;> exact i.elim0

end Cert.TailRefIdeal.Row

end
-- ==== Proof.Tail.Ref.lean ====
/- What the tail's reference computes, row by row, in the words of Tail/Row.lean: one lemma per stage. -/
module

public import proofs.«01_k».proof.Proof.Tail.Stage
public import proofs.«01_k».proof.Proof.Tail.Row

@[expose] public section

set_option maxRecDepth 16384

noncomputable section

namespace Cert.TailRefIdeal.Row

open Idealize.ShloMosaic Idealize.ShloMosaic.TcCoe Idealize.SL.Sem Cert.TailRefIdeal Cert.TailRefIdeal.Gen
open Cert.TailRow

variable (r : Fin 16384)

theorem normed_row (h : FVec Ideal S16384x1024 .f32) (g : FVec Ideal S1x1024 .f32) (l : Fin 1024) :
    normed h g (ix2 r l) = rms (fun k => h (ix2 r k)) (fun k => g (ix2 0 k)) l := by
  pointwise [normed, rms]

theorem projected_row (x : FVec Ideal S16384x1024 .f32) (c a : FVec Ideal S16384x512 .bf16) (w : FVec Ideal S1024x1024 .bf16)
    (l : Fin 1024) : projected x c a w (ix2 r l)
      = mixed (fun k => x (ix2 r k)) (fun k => c (ix2 r k)) (fun k => a (ix2 r k)) (fun k l => w (ix2 k l)) l := by
  pointwise [projected, mixed]
  exact (add_assoc _ _ _).symm

theorem upped_row (h : FVec Ideal S16384x1024 .f32) (g : FVec Ideal S1x1024 .f32) (w : FVec Ideal S1024x5632 .bf16)
    (f : Fin 5632) : upped h g w (ix2 r f)
      = up (fun k => h (ix2 r k)) (fun k => g (ix2 0 k)) (fun k f => w (ix2 k f)) f := by
  have e := normed_row r h g
  pointwise [upped, up, e]

theorem mlp_row (h : FVec Ideal S16384x1024 .f32) (g : FVec Ideal S1x1024 .f32) (wup : FVec Ideal S1024x5632 .bf16)
    (wdn : FVec Ideal S2816x1024 .bf16) (l : Fin 1024) : mlp h g wup wdn (ix2 r l)
      = ffn (fun k => h (ix2 r k)) (fun k => g (ix2 0 k)) (fun k f => wup (ix2 k f)) (fun f k => wdn (ix2 f k)) l := by
  have e := upped_row r h g wup
  pointwise [mlp, silu, ffn, Ideal.logistic, e]

theorem layerInput_row (h : FVec Ideal S16384x1024 .f32) (g : FVec Ideal S1x1024 .f32) (wg : FVec Ideal S1024x1024 .bf16)
    (p : FVec Ideal S16384x256 .f32) (wp : FVec Ideal S256x1024 .bf16) (l : Fin 1024) : layerInput h g wg p wp (ix2 r l)
      = gated (fun k => h (ix2 r k)) (fun k => g (ix2 0 k)) (fun k l => wg (ix2 k l)) (fun k => p (ix2 r k))
          (fun k l => wp (ix2 k l)) l := by
  have e := normed_row r h g
  pointwise [layerInput, gated, Ideal.logistic, e]

/-- One row of the reference's result. -/
theorem whole_row (x : FVec Ideal S16384x1024 .f32) (c a : FVec Ideal S16384x512 .bf16) (p : FVec Ideal S16384x256 .f32)
    (w : FVec Ideal S1024x1024 .bf16) (gf : FVec Ideal S1x1024 .f32) (wup : FVec Ideal S1024x5632 .bf16)
    (wdn : FVec Ideal S2816x1024 .bf16) (gp : FVec Ideal S1x1024 .f32) (wg : FVec Ideal S1024x1024 .bf16)
    (wp : FVec Ideal S256x1024 .bf16) (gz : FVec Ideal S1x1024 .f32) (l : Fin 1024) :
    whole x c a p w gf wup wdn gp wg wp gz (ix2 r l)
      = rms (gated (ffn (mixed (fun k => x (ix2 r k)) (fun k => c (ix2 r k)) (fun k => a (ix2 r k)) (fun k l => w (ix2 k l)))
            (fun k => gf (ix2 0 k)) (fun k f => wup (ix2 k f)) (fun f k => wdn (ix2 f k)))
          (fun k => gp (ix2 0 k)) (fun k l => wg (ix2 k l)) (fun k => p (ix2 r k)) (fun k l => wp (ix2 k l)))
          (fun k => gz (ix2 0 k)) l := by
  simp only [whole, normed_row, layerInput_row, mlp_row, projected_row]

end Cert.TailRefIdeal.Row

end
-- ==== Proof.Tail.Value.lean ====
/- What the output array of the tail holds after the run: the reference's stages of the arguments. -/
module

public import proofs.«01_k».proof.Proof.Gen.TailIdeal.Frame
public import proofs.«01_k».proof.Proof.Tail.Kernel
public import proofs.«01_k».proof.Proof.Tail.Ref
public import Idealize.ShloMosaic.Lib.Pipeline.ValueKit

@[expose] public section

set_option maxRecDepth 16384

noncomputable section

namespace Cert.TailIdeal.Value

open Idealize.ShloMosaic Idealize.ShloMosaic.TcCoe Idealize.SL.Sem Cert.TailIdeal Cert.TailIdeal.Gen
open Cert.TailRow

variable (m : (ℓ : Loc nD τ sig) → Buf (Elt Ideal) ℓ)

/-- One row of the block that the body stores is the reference's row, when each block read is the array's. -/
theorem point (x : FVec Ideal S256x1024 .f32) (cv av : FVec Ideal S256x512 .bf16) (p : FVec Ideal S256x256 .f32)
    (w1 w2 : FVec Ideal S512x1024 .bf16) (g gp gz : FVec Ideal S1x1024 .f32) (wup : FVec Ideal S1024x5632 .bf16)
    (wdn : FVec Ideal S2816x1024 .bf16) (wg : FVec Ideal S1024x1024 .bf16) (wp : FVec Ideal S256x1024 .bf16)
    (X : FVec Ideal S16384x1024 .f32) (C A : FVec Ideal Cert.TailRefIdeal.S16384x512 .bf16) (P : FVec Ideal S16384x256 .f32)
    (W : FVec Ideal S1024x1024 .bf16) (G GP GZ : FVec Ideal S1x1024 .f32) (WUP : FVec Ideal S1024x5632 .bf16)
    (WDN : FVec Ideal S2816x1024 .bf16) (WG : FVec Ideal S1024x1024 .bf16) (WP : FVec Ideal S256x1024 .bf16)
    (r : Fin 256) (R : Fin 16384) (l : Fin 1024)
    (hx : ∀ k, x (ix2 r k) = X (ix2 R k)) (hc : ∀ k, cv (ix2 r k) = C (ix2 R k)) (ha : ∀ k, av (ix2 r k) = A (ix2 R k))
    (hp : ∀ k, p (ix2 r k) = P (ix2 R k))
    (h1 : ∀ (k : Fin 512) (l : Fin 1024), w1 (ix2 k l) = W (ix2 ⟨k.val, by omega⟩ l))
    (h2 : ∀ (k : Fin 512) (l : Fin 1024), w2 (ix2 k l) = W (ix2 ⟨512 + k.val, by omega⟩ l))
    (hg : ∀ k : Fin 1024, g (ix2 0 k) = G (ix2 0 k)) (hgp : ∀ k : Fin 1024, gp (ix2 0 k) = GP (ix2 0 k))
    (hgz : ∀ k : Fin 1024, gz (ix2 0 k) = GZ (ix2 0 k))
    (hup : ∀ (k : Fin 1024) (f : Fin 5632), wup (ix2 k f) = WUP (ix2 k f))
    (hdn : ∀ (f : Fin 2816) (k : Fin 1024), wdn (ix2 f k) = WDN (ix2 f k))
    (hwg : ∀ (k l : Fin 1024), wg (ix2 k l) = WG (ix2 k l)) (hwp : ∀ (k : Fin 256) (l : Fin 1024), wp (ix2 k l) = WP (ix2 k l)) :
    k0_pay1 (F := Ideal) (k0_pay2 x cv w1 av w2 g wup wdn) gp wg p wp gz (ix2 r l)
      = Cert.TailRefIdeal.Row.whole X C A P W G WUP WDN GP WG WP GZ (ix2 R l) := by
  rw [pay1_apply, Cert.TailRefIdeal.Row.whole_row]
  simp only [pay2_apply x cv w1 av w2 g wup wdn (fun k l => W (ix2 k l)) h1 h2, hx, hc, ha, hp, hg, hgp, hgz, hup, hdn, hwg, hwp]

theorem idx : ∀ t : Fin cfg0.N, win0_0.index t = win0_12.index t ∧ win0_1.index t = win0_12.index t
    ∧ win0_2.index t = win0_12.index t ∧ win0_3.index t = win0_12.index t
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t 1 = 0 :=
  (by decide +kernel : ∀ t : Fin grid0.N, _)

theorem rows : ∀ t : Fin cfg0.N, win0_12.index t 0 < 64 := (by decide +kernel : ∀ t : Fin grid0.N, _)

theorem final (c : Dev nD) : (dats m 0 c).arrAt 12 (cfgs 0).N
    = Cert.TailRefIdeal.Row.whole (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11)) := by
  refine (dats m 0 c).arrAt_eq_of_covers 12 _ (by decide +kernel) fun t _ y => ?_
  blk_simp; rw [after0_12]; frame_out
  obtain ⟨e0, e1, e2, e3, e4, e5, e6, e7, e8, e9, e10, e11, e12⟩ := idx t
  idx_vars y
  have hr : win0_12.index t 0 * 256 + y0.val < 16384 := by
    have := rows t; have := y0.isLt; omega
  have he : (((View.whole main_v0).slice (win0_12.rect t)).emb (ix2 y0 y1))
      = ix2 (⟨win0_12.index t 0 * 256 + y0.val, hr⟩ : Fin 16384) y1 := by blk_ext [e12]
  rw [he]
  refine point _ _ _ _ _ _ _ _ _ _ _ _ _ _ _ _ _ _ _ _ _ _ _ _ _ y0 ⟨win0_12.index t 0 * 256 + y0.val, hr⟩ y1 ?_ ?_ ?_ ?_ ?_ ?_ ?_ ?_ ?_ ?_ ?_ ?_ ?_
  all_goals intros
  · blk_ext [iblk, V, e0, e12]
  · blk_ext [iblk, V, e1, e12]
  · blk_ext [iblk, V, e2, e12]
  · blk_ext [iblk, V, e3, e12]
  · pointwise; blk_ext [iblk, V, e4]
  · pointwise; blk_ext [iblk, V, e4]
  · blk_ext [iblk, V, e5]
  · blk_ext [iblk, V, e8]
  · blk_ext [iblk, V, e11]
  · blk_ext [iblk, V, e6]
  · blk_ext [iblk, V, e7]
  · blk_ext [iblk, V, e9]
  · blk_ext [iblk, V, e10]

end Cert.TailIdeal.Value

end
-- ==== Proof.InProj.Row.lean ====
/- One row of the input projection, as the mathematics says it: the norm, the product, the gate and the rotation. -/
module

public import proofs.«01_k».proof.Proof.Tail.Row

@[expose] public section

noncomputable section

namespace Cert.InProjRow

open Idealize.ShloMosaic
open scoped BigOperators

/-- The normed row times one column of the fused weight. -/
def proj (x g : Fin 1024 → EReal) (w : Fin 1024 → Fin 2560 → EReal) (c : Fin 2560) : EReal :=
  ∑ k, Cert.TailRow.rms x g k * w k c

/-- The rotation of the first 16 lanes of each head of 64 lanes: lane `d < 8` is paired with lane `d + 8`
    and both turn by the angle `a d`; the other lanes stay. -/
def rot (t : Fin 512 → EReal) (a : Fin 8 → EReal) (c : Fin 512) : EReal :=
  if h : c.val % 64 < 8 then
    t c * Ideal.cos (a ⟨c.val % 64, h⟩) - t ⟨c.val + 8, by omega⟩ * Ideal.sin (a ⟨c.val % 64, h⟩)
  else if h' : c.val % 64 < 16 then
    t c * Ideal.cos (a ⟨c.val % 64 - 8, by omega⟩) + t ⟨c.val - 8, by omega⟩ * Ideal.sin (a ⟨c.val % 64 - 8, by omega⟩)
  else t c

/-- Frequency number `k` of the rotation: the base to the power `-2 k / 16`. -/
def freq (k : Fin 8) : EReal :=
  Ideal.pow (Ideal.ofBits .f32 0x48F42400#32)
    (Ideal.div (-(Ideal.ofBits .f32 0x00000000#32 + Ideal.ofBits .f32 0x40000000#32 * FloatOps.sitofp (F := Ideal) .f32 (BitVec.ofNat 32 k.val)))
      (Ideal.ofBits .f32 0x41800000#32))

end Cert.InProjRow

end
-- ==== Proof.InProj.Kernel.lean ====
/- What one block of the input projection's kernel computes, entry by entry. -/
module

public import proofs.«01_k».proof.Proof.Gen.InProjIdeal.Frame
public import proofs.«01_k».proof.Proof.InProj.Row
public import Idealize.ShloMosaic.Lib.Pointwise

@[expose] public section

set_option maxRecDepth 16384

noncomputable section

namespace Cert.InProjIdeal.Value

open Idealize.ShloMosaic Idealize.ShloMosaic.TcCoe Idealize.SL.Sem Cert.InProjIdeal Cert.InProjIdeal.Gen
open Cert.InProjRow

/-- The product of the normed rows with the fused weight. -/
theorem pay4_apply (x : FVec Ideal S512x1024 .f32) (g : FVec Ideal S1x1024 .f32) (w : FVec Ideal S1024x2560 .bf16)
    (r : Fin 512) (c : Fin 2560) :
    k0_pay4 (F := Ideal) x g w (ix2 r c) = proj (fun k => x (ix2 r k)) (fun k => g (ix2 0 k)) (fun k c => w (ix2 k c)) c := by
  pointwise [k0_pay4, proj, Cert.TailRow.rms]

/-- One tile of 128 lanes of the rotation, from lane `o` of the product on: each lane times the cosine of its angle, plus
    the lane 8 below times the sine where the lane is in the upper half of the turned lanes or beyond, plus the lane 8
    above times minus the sine where the lane is in the lower half. -/
def turn (z : Fin 2560 → EReal) (a : Fin 128 → EReal) (o : ℕ) (ho : o + 128 ≤ 2560) (l : Fin 128) : EReal :=
  z ⟨o + l.val, by omega⟩ * Ideal.cos (a l)
    + Scalar.select (IntOp.cmpi .sge (IntOp.andi (BitVec.ofNat 32 l.val) 63#32) 8#32)
        (z ⟨o + (l.val + 128 - 8) % 128, by omega⟩ * Ideal.sin (a l)) 0
    + Scalar.select (IntOp.cmpi .slt (IntOp.andi (BitVec.ofNat 32 l.val) 63#32) 8#32)
        (z ⟨o + (l.val + 128 - 120) % 128, by omega⟩ * (0 - Ideal.sin (a l))) 0

section Tiles

variable (z : FVec Ideal S512x2560 .f32) (p : IVec S512x1 32) (f : FVec Ideal S1x128 .f32) (r : Fin 512) (l : Fin 128)

/-- The angle of each lane in one row: the position times the lane's frequency. -/
def ang (p : IVec S512x1 32) (f : FVec Ideal S1x128 .f32) (r : Fin 512) (l : Fin 128) : EReal :=
  FloatOps.sitofp (F := Ideal) .f32 (p (ix2 r 0)) * f (ix2 0 l)

theorem q0_apply : k0_pay14 (F := Ideal) z (k0_pay7 p f) (k0_pay8 p f) k0_pay9 k0_pay10 (k0_pay11 p f) (Scalar.ofBits .f32 0x00000000#32) (ix2 r l)
    = turn (fun c => z (ix2 r c)) (ang p f r) 1024 (by omega) l * Ideal.ofBits .f32 0x3E000000#32 := by
  pointwise [k0_pay14, k0_pay7, k0_pay8, k0_pay9, k0_pay10, k0_pay11, k0_pay12, k0_pay13, k0_pay6, turn, ang]

theorem q1_apply : k0_pay16 (F := Ideal) z (k0_pay7 p f) (k0_pay8 p f) k0_pay9 k0_pay10 (k0_pay11 p f) (Scalar.ofBits .f32 0x00000000#32) (ix2 r l)
    = turn (fun c => z (ix2 r c)) (ang p f r) 1152 (by omega) l * Ideal.ofBits .f32 0x3E000000#32 := by
  pointwise [k0_pay16, k0_pay7, k0_pay8, k0_pay9, k0_pay10, k0_pay11, k0_pay12, k0_pay13, k0_pay6, turn, ang]

theorem q2_apply : k0_pay18 (F := Ideal) z (k0_pay7 p f) (k0_pay12 k0_pay10 (k0_pay11 p f) (Scalar.ofBits .f32 0x00000000#32)) (k0_pay13 (k0_pay8 p f) k0_pay9) (ix2 r l)
    = turn (fun c => z (ix2 r c)) (ang p f r) 1280 (by omega) l * Ideal.ofBits .f32 0x3E000000#32 := by
  pointwise [k0_pay18, k0_pay7, k0_pay8, k0_pay9, k0_pay10, k0_pay11, k0_pay12, k0_pay13, k0_pay6, turn, ang]

theorem q3_apply : k0_pay1 (F := Ideal) (k0_pay21 z (k0_pay7 p f) (k0_pay13 (k0_pay8 p f) k0_pay9))
      (k0_pay22 z (k0_pay12 k0_pay10 (k0_pay11 p f) (Scalar.ofBits .f32 0x00000000#32))) (ix2 r l)
    = turn (fun c => z (ix2 r c)) (ang p f r) 1408 (by omega) l * Ideal.ofBits .f32 0x3E000000#32 := by
  pointwise [k0_pay1, k0_pay20, k0_pay21, k0_pay22, k0_pay7, k0_pay8, k0_pay9, k0_pay10, k0_pay11, k0_pay12, k0_pay13, k0_pay6, turn, ang]

theorem k0_apply : k0_pay15 (F := Ideal) z (k0_pay7 p f) (k0_pay8 p f) k0_pay9 k0_pay10 (k0_pay11 p f) (Scalar.ofBits .f32 0x00000000#32) (ix2 r l)
    = turn (fun c => z (ix2 r c)) (ang p f r) 1536 (by omega) l := by
  pointwise [k0_pay15, k0_pay7, k0_pay8, k0_pay9, k0_pay10, k0_pay11, k0_pay12, k0_pay13, k0_pay6, turn, ang]

theorem k1_apply : k0_pay17 (F := Ideal) z (k0_pay7 p f) (k0_pay12 k0_pay10 (k0_pay11 p f) (Scalar.ofBits .f32 0x00000000#32)) (k0_pay13 (k0_pay8 p f) k0_pay9) (ix2 r l)
    = turn (fun c => z (ix2 r c)) (ang p f r) 1664 (by omega) l := by
  pointwise [k0_pay17, k0_pay7, k0_pay8, k0_pay9, k0_pay10, k0_pay11, k0_pay12, k0_pay13, k0_pay6, turn, ang]

theorem k2_apply : k0_pay19 (F := Ideal) z (k0_pay7 p f) (k0_pay12 k0_pay10 (k0_pay11 p f) (Scalar.ofBits .f32 0x00000000#32)) (k0_pay13 (k0_pay8 p f) k0_pay9) (ix2 r l)
    = turn (fun c => z (ix2 r c)) (ang p f r) 1792 (by omega) l := by
  pointwise [k0_pay19, k0_pay7, k0_pay8, k0_pay9, k0_pay10, k0_pay11, k0_pay12, k0_pay13, k0_pay6, turn, ang]

theorem k3_apply : k0_pay2 (F := Ideal) z (k0_pay7 p f) (k0_pay12 k0_pay10 (k0_pay11 p f) (Scalar.ofBits .f32 0x00000000#32)) (k0_pay13 (k0_pay8 p f) k0_pay9) (ix2 r l)
    = turn (fun c => z (ix2 r c)) (ang p f r) 1920 (by omega) l := by
  pointwise [k0_pay2, k0_pay7, k0_pay8, k0_pay9, k0_pay10, k0_pay11, k0_pay12, k0_pay13, k0_pay6, turn, ang]

end Tiles

/-- The frequency of a lane: the angle's frequency in the first 16 lanes of a head, none in the others. -/
def laneFreq (l : Fin 128) : EReal :=
  if l.val % 64 < 16 then freq ⟨l.val % 8, by omega⟩ else 0

theorem lane_sge : ∀ l : Fin 128, IntOp.cmpi .sge (IntOp.andi (BitVec.ofNat 32 l.val) 63#32) 8#32
    = BitVec.ofBool (decide (8 ≤ l.val % 64)) := by decide +kernel

theorem lane_slt : ∀ l : Fin 128, IntOp.cmpi .slt (IntOp.andi (BitVec.ofNat 32 l.val) 63#32) 8#32
    = BitVec.ofBool (decide (l.val % 64 < 8)) := by decide +kernel

/-- A tile of the kernel's rotation is the rotation of the heads it holds. -/
theorem turn_eq (z : Fin 2560 → EReal) (p : EReal) (b n o : ℕ) (hn : n < 4) (hb : b + 512 ≤ 2560) (ho : o + 128 ≤ 2560)
    (h : o = b + n * 128) (l : Fin 128) :
    turn z (fun l => p * laneFreq l) o ho l
      = rot (fun c => z ⟨b + c.val, by omega⟩) (fun k => p * freq k) ⟨n * 128 + l.val, by omega⟩ := by
  subst h
  have e : (n * 128 + l.val) % 64 = l.val % 64 := by omega
  unfold turn rot
  rw [lane_sge, lane_slt]
  simp only [e, laneFreq]
  by_cases h1 : l.val % 64 < 8
  · have h2 : ¬ 8 ≤ l.val % 64 := by omega
    have h3 : l.val % 64 < 16 := by omega
    have h4 : l.val % 8 = l.val % 64 := by omega
    have h5 : b + n * 128 + (l.val + 128 - 120) % 128 = b + (n * 128 + l.val + 8) := by omega
    have h6 : b + n * 128 + l.val = b + (n * 128 + l.val) := by omega
    simp only [h1, h2, h3, h4, h5, h6, dif_pos, if_pos, decide_true, decide_false, BitVec.ofBool_true, BitVec.ofBool_false,
      Scalar.select]
    simp [sub_eq_add_neg]
  · by_cases h3 : l.val % 64 < 16
    · have h2 : 8 ≤ l.val % 64 := by omega
      have h4 : l.val % 8 = l.val % 64 - 8 := by omega
      have h5 : b + n * 128 + (l.val + 128 - 8) % 128 = b + (n * 128 + l.val - 8) := by omega
      have h6 : b + n * 128 + l.val = b + (n * 128 + l.val) := by omega
      simp only [h1, h2, h3, h4, h5, h6, dif_pos, dif_neg, if_pos, decide_true, decide_false, BitVec.ofBool_true,
        BitVec.ofBool_false, Scalar.select, not_false_eq_true]
      simp
    · have h2 : 8 ≤ l.val % 64 := by omega
      have h6 : b + n * 128 + l.val = b + (n * 128 + l.val) := by omega
      have c0 : Ideal.cos 0 = 1 := by
        show ((Real.cos 0 : ℝ) : EReal) = 1
        rw [Real.cos_zero]; rfl
      have s0 : Ideal.sin 0 = 0 := by
        show ((Real.sin 0 : ℝ) : EReal) = 0
        rw [Real.sin_zero]; rfl
      simp only [h1, h2, h3, h6, dif_neg, if_neg, decide_true, decide_false, BitVec.ofBool_true, BitVec.ofBool_false,
        Scalar.select, not_false_eq_true, mul_zero, c0, s0]
      simp

end Cert.InProjIdeal.Value

end
-- ==== Proof.InProj.Freq.lean ====
/- What the table of lane frequencies holds when the kernel starts. -/
module

public import proofs.«01_k».proof.Proof.Gen.InProjIdeal.Frame
public import proofs.«01_k».proof.Proof.InProj.Kernel
public import Idealize.ShloMosaic.Lib.Pipeline.ValueKit

@[expose] public section

set_option maxRecDepth 16384

noncomputable section

namespace Cert.InProjIdeal.Value

open Idealize.ShloMosaic Idealize.ShloMosaic.TcCoe Idealize.SL.Sem Cert.InProjIdeal Cert.InProjIdeal.Gen
open Cert.InProjRow

variable (m : (ℓ : Loc nD τ sig) → Buf (Elt Ideal) ℓ)

/-- The table from its three parts: the frequencies, the mask of the turned lanes and the frequency's number in each lane. -/
theorem table (inv : FVec Ideal S8 .f32) (mask : IVec S128 1) (idx : IVec S128x1 32)
    (hinv : ∀ k : Fin 8, inv (ix1 k) = freq k)
    (hm : ∀ l : Fin 128, mask (ix1 l) = BitVec.ofBool (decide (l.val % 64 < 16)))
    (hi : ∀ l : Fin 128, idx (ix2 l 0) = BitVec.ofNat 32 (l.val % 8)) (l : Fin 128) :
    shapeCast S1x128 (select mask (Host.gather gather_S8_S128x1_S128_n_0_n_n_0_1_1 inv idx)
      (broadcastInDim S128 ![] bcast_S_S128 (id (constant (F := Ideal) S_ .f32 0x00000000#32)))) shapeCasts_S128_S1x128 (ix2 0 l)
      = laneFreq l := by
  have hg : Host.gather gather_S8_S128x1_S128_n_0_n_n_0_1_1 inv idx (ix1 l) = freq ⟨l.val % 8, by omega⟩ := by
    have e : idx = fun i => BitVec.ofNat 32 ((i 0).val % 8) := by
      funext i; idx_vars i; obtain rfl : i1 = 0 := Subsingleton.elim _ _; exact hi i0
    rw [← hinv, e]
    exact congrArg inv ((by decide +kernel : ∀ l : Fin 128, gather_S8_S128x1_S128_n_0_n_n_0_1_1.operandIdx (ix1 l)
      (fun i => BitVec.ofNat 32 ((i 0).val % 8)) = ix1 (⟨l.val % 8, by omega⟩ : Fin 8)) l)
  generalize Host.gather gather_S8_S128x1_S128_n_0_n_n_0_1_1 inv idx = G at *
  pointwise [hm, hg]
  unfold laneFreq
  by_cases h : l.val % 64 < 16
  · simp only [h, if_pos]
  · simp only [h, if_neg, not_false_eq_true]
    pointwise [id]

theorem V_freq (c : Dev nD) (l : Fin 128) : V m c main_v23 (ix2 0 l) = laneFreq l := by
  simp only [V, hostOps0, hostOps0_1, hostOps0_2, hostOps0_3, hostOps0_4, hostOps0_5, hostOps0_6, List.flatten_cons, List.flatten_nil, List.append_nil, List.cons_append,
      List.nil_append]
  simp only [StableHlo.TRef.binary, StableHlo.TRef.nullary, StableHlo.TRef.unary, StableHlo.TRef.ternary, StableHlo.TRef.toBuf, StableHlo.TRef.ofBuf, cast_eq]
  after_results_simp
  refine table _ _ _ (fun k => ?_) ?_ ?_ l
  · pointwise [freq]
  · decide +kernel
  · decide +kernel

end Cert.InProjIdeal.Value

end
-- ==== Proof.InProj.Ref.lean ====
/- What the reference's stages hold, entry by entry. -/
module

public import proofs.«01_k».proof.Proof.Gen.InProjRefIdeal.Read
public import proofs.«01_k».proof.Proof.InProj.Row
public import Idealize.ShloMosaic.Lib.Pointwise

@[expose] public section

set_option maxRecDepth 16384

noncomputable section

namespace Cert.InProjRefIdeal.Row

open Idealize.ShloMosaic Idealize.ShloMosaic.TcCoe Cert.InProjRefIdeal
open Cert.InProjRow Cert.InProjRefIdeal.Read

variable (X : FVec Ideal S16384x1024 .f32) (P : IVec S16384x1 32) (G : FVec Ideal S1x1024 .f32) (W : FVec Ideal S1024x2560 .bf16)

theorem z_apply (R : Fin 16384) (c : Fin 2560) :
    val_main_v13 (F := Ideal) X G W (ix2 R c) = proj (fun k => X (ix2 R k)) (fun k => G (ix2 0 k)) (fun k c => W (ix2 k c)) c := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, proj, Cert.TailRow.rms]

theorem ang_apply (R : Fin 16384) (k : Fin 8) :
    val_main_v33 (F := Ideal) P (ix2 R k) = FloatOps.sitofp (F := Ideal) .f32 (P (ix2 R 0)) * freq k := by
  pointwise [val_main_v33, val_main_v32, val_main_v31, val_main_v30, val_main_v29, val_main_v28, val_main_v27, val_main_v26, val_main_v25,
    val_main_v24, val_main_v23, val_main_v22, val_main_v21, val_main_v20, val_main_v19, val_main_cst_2, val_main_cst_3, val_main_cst_4, val_main_cst_5, freq]

theorem u_apply (R : Fin 16384) (c : Fin 512) :
    val_main_v44 (F := Ideal) X G W (ix2 R c)
      = val_main_v13 (F := Ideal) X G W (ix2 R ⟨c.val, by omega⟩)
        * Ideal.logistic (val_main_v13 (F := Ideal) X G W (ix2 R ⟨512 + c.val, by omega⟩)) := by
  generalize hz : val_main_v13 (F := Ideal) X G W = z
  pointwise [val_main_v44, val_main_v43, val_main_v42, val_main_v41, val_main_v40, val_main_v39, val_main_v38, val_main_v15, val_main_v14,
    val_main_cst_6, val_main_cst_7, hz]
  rfl

theorem qrot_apply (R : Fin 16384) (c : Fin 512) :
    val_main_v60 (F := Ideal) X P G W (ix2 R c)
      = rot (fun c => val_main_v13 (F := Ideal) X G W (ix2 R ⟨1024 + c.val, by omega⟩)) (fun k => val_main_v33 (F := Ideal) P (ix2 R k)) c := by
  generalize hz : val_main_v13 (F := Ideal) X G W = z
  generalize ha : val_main_v33 (F := Ideal) P = a
  pointwise [val_main_v60, val_main_v59, val_main_v58, val_main_v57, val_main_v56, val_main_v55, val_main_v54, val_main_v53, val_main_v52,
    val_main_v51, val_main_v50, val_main_v49, val_main_v48, val_main_v47, val_main_v46, val_main_v45, val_main_v16,
    val_main_v37, val_main_v36, val_main_v35, val_main_v34, hz, ha, rot]
  by_cases h1 : c.val % 64 < 8
  · have e : c.val / 64 * 64 + (8 + c.val % 64) = c.val + 8 := by omega
    simp only [h1, dif_pos, e]
  · by_cases h2 : c.val % 64 < 16
    · have h3 : c.val % 64 - 8 < 8 := by omega
      have e1 : c.val / 64 * 64 + (8 + (c.val % 64 - 8)) = c.val := by omega
      have e2 : c.val / 64 * 64 + (c.val % 64 - 8) = c.val - 8 := by omega
      simp only [h1, h2, h3, dif_pos, dif_neg, not_false_eq_true, e1, e2]
    · have h3 : ¬ c.val % 64 - 8 < 8 := by omega
      have e1 : c.val / 64 * 64 + (16 + (c.val % 64 - 8 - 8)) = c.val := by omega
      simp only [h1, h2, h3, dif_neg, not_false_eq_true, e1]

theorem krot_apply (R : Fin 16384) (c : Fin 512) :
    val_main_v79 (F := Ideal) X P G W (ix2 R c)
      = rot (fun c => val_main_v13 (F := Ideal) X G W (ix2 R ⟨1536 + c.val, by omega⟩)) (fun k => val_main_v33 (F := Ideal) P (ix2 R k)) c := by
  generalize hz : val_main_v13 (F := Ideal) X G W = z
  generalize ha : val_main_v33 (F := Ideal) P = a
  pointwise [val_main_v79, val_main_v78, val_main_v77, val_main_v76, val_main_v75, val_main_v74, val_main_v73, val_main_v72, val_main_v71,
    val_main_v70, val_main_v69, val_main_v68, val_main_v67, val_main_v66, val_main_v65, val_main_v64, val_main_v17,
    val_main_v37, val_main_v36, val_main_v35, val_main_v34, hz, ha, rot]
  by_cases h1 : c.val % 64 < 8
  · have e : c.val / 64 * 64 + (8 + c.val % 64) = c.val + 8 := by omega
    simp only [h1, dif_pos, e]
  · by_cases h2 : c.val % 64 < 16
    · have h3 : c.val % 64 - 8 < 8 := by omega
      have e1 : c.val / 64 * 64 + (8 + (c.val % 64 - 8)) = c.val := by omega
      have e2 : c.val / 64 * 64 + (c.val % 64 - 8) = c.val - 8 := by omega
      simp only [h1, h2, h3, dif_pos, dif_neg, not_false_eq_true, e1, e2]
    · have h3 : ¬ c.val % 64 - 8 < 8 := by omega
      have e1 : c.val / 64 * 64 + (16 + (c.val % 64 - 8 - 8)) = c.val := by omega
      simp only [h1, h2, h3, dif_neg, not_false_eq_true, e1]

/-! The four results, entry by entry. -/

theorem u_row (R : Fin 16384) (c : Fin 512) :
    val_main_v44 (F := Ideal) X G W (ix2 R c)
      = proj (fun k => X (ix2 R k)) (fun k => G (ix2 0 k)) (fun k c => W (ix2 k c)) ⟨c.val, by omega⟩
        * Ideal.logistic (proj (fun k => X (ix2 R k)) (fun k => G (ix2 0 k)) (fun k c => W (ix2 k c)) ⟨512 + c.val, by omega⟩) := by
  rw [u_apply, z_apply, z_apply]

theorem q_row (R : Fin 16384) (c : Fin 512) :
    val_main_v63 (F := Ideal) X P G W (ix2 R c)
      = rot (fun c => proj (fun k => X (ix2 R k)) (fun k => G (ix2 0 k)) (fun k c => W (ix2 k c)) ⟨1024 + c.val, by omega⟩)
          (fun k => FloatOps.sitofp (F := Ideal) .f32 (P (ix2 R 0)) * freq k) c * Ideal.ofBits .f32 0x3E000000#32 := by
  have e : val_main_v63 (F := Ideal) X P G W (ix2 R c)
      = val_main_v60 (F := Ideal) X P G W (ix2 R c) * Ideal.ofBits .f32 0x3E000000#32 := by
    generalize hq : val_main_v60 (F := Ideal) X P G W = q
    pointwise [val_main_v63, val_main_v62, val_main_v61, val_main_cst_8, hq]
  rw [e, qrot_apply]
  simp only [z_apply, ang_apply]

theorem k_row (R : Fin 16384) (c : Fin 512) :
    val_main_v80 (F := Ideal) X P G W (ix2 R c)
      = rot (fun c => proj (fun k => X (ix2 R k)) (fun k => G (ix2 0 k)) (fun k c => W (ix2 k c)) ⟨1536 + c.val, by omega⟩)
          (fun k => FloatOps.sitofp (F := Ideal) .f32 (P (ix2 R 0)) * freq k) c := by
  have e : val_main_v80 (F := Ideal) X P G W (ix2 R c) = val_main_v79 (F := Ideal) X P G W (ix2 R c) := by
    generalize hq : val_main_v79 (F := Ideal) X P G W = q
    pointwise [val_main_v80, hq]
  rw [e, krot_apply]
  simp only [z_apply, ang_apply]

theorem v_row (R : Fin 16384) (c : Fin 512) :
    val_main_v81 (F := Ideal) X G W (ix2 R c)
      = proj (fun k => X (ix2 R k)) (fun k => G (ix2 0 k)) (fun k c => W (ix2 k c)) ⟨2048 + c.val, by omega⟩ := by
  rw [← z_apply X G W R]
  generalize hz : val_main_v13 (F := Ideal) X G W = z
  pointwise [val_main_v81, val_main_v18, hz]

end Cert.InProjRefIdeal.Row

end
-- ==== Proof.InProj.Value.lean ====
/- What the four output arrays of the input projection hold after the run: the reference's stages of the arguments. -/
module

public import proofs.«01_k».proof.Proof.Gen.InProjIdeal.Frame
public import proofs.«01_k».proof.Proof.InProj.Freq
public import proofs.«01_k».proof.Proof.InProj.Ref
public import Idealize.ShloMosaic.Lib.Pipeline.ValueKit

@[expose] public section

set_option maxRecDepth 16384

noncomputable section

namespace Cert.InProjIdeal.Value

open Idealize.ShloMosaic Idealize.ShloMosaic.TcCoe Idealize.SL.Sem Cert.InProjIdeal Cert.InProjIdeal.Gen
open Cert.InProjRow Cert.InProjRefIdeal.Read Cert.InProjRefIdeal.Row

variable (m : (ℓ : Loc nD τ sig) → Buf (Elt Ideal) ℓ)

/-! ## One block, when each block read is the array's -/

section Point

variable (x : FVec Ideal S512x1024 .f32) (p : IVec S512x1 32) (f : FVec Ideal S1x128 .f32) (g : FVec Ideal S1x1024 .f32)
  (w : FVec Ideal S1024x2560 .bf16)
  (X : FVec Ideal S16384x1024 .f32) (P : IVec S16384x1 32) (G : FVec Ideal S1x1024 .f32) (W : FVec Ideal S1024x2560 .bf16)
  (r : Fin 512) (R : Fin 16384)

theorem pointU (l : Fin 512) (hx : ∀ k, x (ix2 r k) = X (ix2 R k)) (hg : ∀ k : Fin 1024, g (ix2 0 k) = G (ix2 0 k))
    (hw : ∀ (k : Fin 1024) (c : Fin 2560), w (ix2 k c) = W (ix2 k c)) :
    k0_pay5 (F := Ideal) x g w (ix2 r l) = val_main_v44 (F := Ideal) X G W (ix2 R l) := by
  rw [u_row, show k0_pay5 (F := Ideal) x g w (ix2 r l) = k0_pay4 (F := Ideal) x g w (ix2 r ⟨l.val, by omega⟩)
    * Ideal.logistic (k0_pay4 (F := Ideal) x g w (ix2 r ⟨512 + l.val, by omega⟩)) from ?_]
  · simp only [pay4_apply, hx, hg, hw]
  · generalize hz : k0_pay4 (F := Ideal) x g w = z
    pointwise [k0_pay5, hz]

theorem pointV (l : Fin 512) (hx : ∀ k, x (ix2 r k) = X (ix2 R k)) (hg : ∀ k : Fin 1024, g (ix2 0 k) = G (ix2 0 k))
    (hw : ∀ (k : Fin 1024) (c : Fin 2560), w (ix2 k c) = W (ix2 k c)) :
    k0_pay3 (F := Ideal) (k0_pay4 x g w) (ix2 r l) = val_main_v81 (F := Ideal) X G W (ix2 R l) := by
  rw [v_row, show k0_pay3 (F := Ideal) (k0_pay4 x g w) (ix2 r l)
    = k0_pay4 (F := Ideal) x g w (ix2 r ⟨2048 + l.val, by omega⟩) from ?_]
  · simp only [pay4_apply, hx, hg, hw]
  · generalize hz : k0_pay4 (F := Ideal) x g w = z
    pointwise [k0_pay3, hz]

/-- One lane of one tile of the rotated queries or keys. -/
theorem turned (b n o : ℕ) (hn : n < 4) (hb : b + 512 ≤ 2560) (ho : o + 128 ≤ 2560) (h : o = b + n * 128) (l : Fin 128)
    (hx : ∀ k, x (ix2 r k) = X (ix2 R k)) (hp : p (ix2 r 0) = P (ix2 R 0)) (hf : ∀ l : Fin 128, f (ix2 0 l) = laneFreq l)
    (hg : ∀ k : Fin 1024, g (ix2 0 k) = G (ix2 0 k)) (hw : ∀ (k : Fin 1024) (c : Fin 2560), w (ix2 k c) = W (ix2 k c)) :
    turn (fun c => k0_pay4 (F := Ideal) x g w (ix2 r c)) (ang p f r) o ho l
      = rot (fun c => proj (fun k => X (ix2 R k)) (fun k => G (ix2 0 k)) (fun k c => W (ix2 k c)) ⟨b + c.val, by omega⟩)
          (fun k => FloatOps.sitofp (F := Ideal) .f32 (P (ix2 R 0)) * freq k) ⟨n * 128 + l.val, by omega⟩ := by
  rw [← turn_eq _ _ b n o hn hb ho h]
  unfold ang
  simp only [pay4_apply, hx, hp, hf, hg, hw]

end Point

/-! ## The values shared by the tiles, over the blocks themselves -/

section Shared

variable (x0 : Vec Ideal S512x1024 .f32) (x1 : Vec Ideal S512x1 .i32) (x2 : Vec Ideal S1x128 .f32) (x3 : Vec Ideal S1x1024 .f32)
  (x4 : Vec Ideal S1024x2560 .bf16)

theorem pay23_eq : k0_pay23 (F := Ideal) x0 x1 x2 x3 x4 = k0_pay4 x0 x3 x4 := by
  unfold k0_pay23
  congr 1 <;> (funext i; idx_vars i; pointwise <;> blk_ext [])

theorem pay24_eq : k0_pay24 (F := Ideal) x0 x1 x2 x3 x4 = k0_pay7 x1 x2 := by
  unfold k0_pay24
  congr 1 <;> (funext i; idx_vars i; pointwise <;> blk_ext [])

theorem pay25_eq : k0_pay25 (F := Ideal) x0 x1 x2 x3 x4 = k0_pay8 x1 x2 := by
  unfold k0_pay25
  congr 1 <;> (funext i; idx_vars i; pointwise <;> blk_ext [])

theorem pay28_eq : k0_pay28 (F := Ideal) x0 x1 x2 x3 x4 = k0_pay11 x1 x2 := by
  unfold k0_pay28
  congr 1 <;> (funext i; idx_vars i; pointwise <;> blk_ext [])

theorem pay29_eq : k0_pay29 (F := Ideal) x0 x1 x2 x3 x4
    = k0_pay12 k0_pay10 (k0_pay11 x1 x2) (Scalar.ofBits .f32 0x00000000#32) := by
  unfold k0_pay29 k0_pay27
  rw [pay28_eq]

theorem pay30_eq : k0_pay30 (F := Ideal) x0 x1 x2 x3 x4 = k0_pay13 (k0_pay8 x1 x2) k0_pay9 := by
  unfold k0_pay30 k0_pay26
  rw [pay25_eq]

end Shared

theorem idx : ∀ t : Fin cfg0.N, win0_0.index t = win0_8.index t ∧ win0_1.index t = win0_8.index t
    ∧ win0_2.index t = ![0, 0] ∧ win0_3.index t = ![0, 0] ∧ win0_4.index t = ![0, 0]
    ∧ win0_5.index t = win0_8.index t ∧ win0_6.index t = win0_8.index t ∧ win0_7.index t = win0_8.index t
    ∧ win0_8.index t 1 = 0 :=
  (by decide +kernel : ∀ t : Fin grid0.N, _)

theorem rows : ∀ t : Fin cfg0.N, win0_8.index t 0 < 32 := (by decide +kernel : ∀ t : Fin grid0.N, _)

/-! ## The block reads of a grid point -/

section Reads

variable (c : Dev nD) (t : Fin cfg0.N) (r : Fin 512) (hr : win0_8.index t 0 * 512 + r.val < 16384)

theorem readX (k : Fin 1024) : iblk m c 0 t (ix2 r k)
    = m ((c.tc : Thread nD τ).loc main_arg0) (ix2 (⟨win0_8.index t 0 * 512 + r.val, hr⟩ : Fin 16384) k) := by
  obtain ⟨e0, e1, e2, e3, e4, e5, e6, e7, e8⟩ := idx t
  rw [← V_main_arg0 m c]
  blk_ext [iblk, e0, e8]

theorem readP : iblk m c 1 t (ix2 r 0)
    = m ((c.tc : Thread nD τ).loc main_arg1) (ix2 (⟨win0_8.index t 0 * 512 + r.val, hr⟩ : Fin 16384) 0) := by
  obtain ⟨e0, e1, e2, e3, e4, e5, e6, e7, e8⟩ := idx t
  rw [← V_main_arg1 m c]
  blk_ext [iblk, e1, e8]

theorem readF (l : Fin 128) : iblk m c 2 t (ix2 0 l) = laneFreq l := by
  obtain ⟨e0, e1, e2, e3, e4, e5, e6, e7, e8⟩ := idx t
  rw [← V_freq m c l]
  blk_ext [iblk, e2]

theorem readG (k : Fin 1024) : iblk m c 3 t (ix2 0 k) = m ((c.tc : Thread nD τ).loc main_arg2) (ix2 0 k) := by
  obtain ⟨e0, e1, e2, e3, e4, e5, e6, e7, e8⟩ := idx t
  rw [← V_main_arg2 m c]
  blk_ext [iblk, e3]

theorem readW (k : Fin 1024) (l : Fin 2560) : iblk m c 4 t (ix2 k l) = m ((c.tc : Thread nD τ).loc main_arg3) (ix2 k l) := by
  obtain ⟨e0, e1, e2, e3, e4, e5, e6, e7, e8⟩ := idx t
  rw [← V_main_arg3 m c]
  blk_ext [iblk, e4]

end Reads

/-! ## The four arrays -/

theorem finalU (c : Dev nD) : (dats m 0 c).arrAt 5 (cfgs 0).N
    = val_main_v44 (F := Ideal) (m ((c.tc : Thread nD τ).loc main_arg0)) (m ((c.tc : Thread nD τ).loc main_arg2))
        (m ((c.tc : Thread nD τ).loc main_arg3)) := by
  refine (dats m 0 c).arrAt_eq_of_covers 5 _ (by decide +kernel) fun t _ y => ?_
  blk_simp; rw [after0_5]; frame_out
  obtain ⟨e0, e1, e2, e3, e4, e5, e6, e7, e8⟩ := idx t
  idx_vars y
  have hr : win0_8.index t 0 * 512 + y0.val < 16384 := by
    have := rows t; have := y0.isLt; omega
  have he : (((View.whole main_v24_0).slice (win0_5.rect t)).emb (ix2 y0 y1))
      = ix2 (⟨win0_8.index t 0 * 512 + y0.val, hr⟩ : Fin 16384) y1 := by blk_ext [e5, e8]
  rw [he]
  refine pointU _ _ _ _ _ _ y0 _ y1 ?_ ?_ ?_
  · exact readX m c t y0 hr
  · exact readG m c t
  · exact readW m c t

theorem finalV (c : Dev nD) : (dats m 0 c).arrAt 8 (cfgs 0).N
    = val_main_v81 (F := Ideal) (m ((c.tc : Thread nD τ).loc main_arg0)) (m ((c.tc : Thread nD τ).loc main_arg2))
        (m ((c.tc : Thread nD τ).loc main_arg3)) := by
  refine (dats m 0 c).arrAt_eq_of_covers 8 _ (by decide +kernel) fun t _ y => ?_
  blk_simp; rw [after0_8]; frame_out
  obtain ⟨e0, e1, e2, e3, e4, e5, e6, e7, e8⟩ := idx t
  idx_vars y
  have hr : win0_8.index t 0 * 512 + y0.val < 16384 := by
    have := rows t; have := y0.isLt; omega
  have he : (((View.whole main_v24_3).slice (win0_8.rect t)).emb (ix2 y0 y1))
      = ix2 (⟨win0_8.index t 0 * 512 + y0.val, hr⟩ : Fin 16384) y1 := by blk_ext [e8]
  rw [he, pay23_eq]
  refine pointV _ _ _ _ _ _ y0 _ y1 ?_ ?_ ?_
  · exact readX m c t y0 hr
  · exact readG m c t
  · exact readW m c t

/-- One lane of one stored tile, for the queries' and the keys' window alike. -/
theorem tile (c : Dev nD) (t : Fin cfg0.N) (r : Fin 512) (hr : win0_8.index t 0 * 512 + r.val < 16384)
    (b n o : ℕ) (hn : n < 4) (hb : b + 512 ≤ 2560) (ho : o + 128 ≤ 2560) (h : o = b + n * 128) (l : Fin 128) :
    turn (fun d => k0_pay4 (F := Ideal) (iblk m c 0 t) (iblk m c 3 t) (iblk m c 4 t) (ix2 r d)) (ang (iblk m c 1 t) (iblk m c 2 t) r) o ho l
      = rot (fun d => proj (fun k => m ((c.tc : Thread nD τ).loc main_arg0) (ix2 (⟨win0_8.index t 0 * 512 + r.val, hr⟩ : Fin 16384) k))
            (fun k => m ((c.tc : Thread nD τ).loc main_arg2) (ix2 0 k))
            (fun k d => m ((c.tc : Thread nD τ).loc main_arg3) (ix2 k d)) ⟨b + d.val, by omega⟩)
          (fun k => FloatOps.sitofp (F := Ideal) .f32
            (m ((c.tc : Thread nD τ).loc main_arg1) (ix2 (⟨win0_8.index t 0 * 512 + r.val, hr⟩ : Fin 16384) 0)) * freq k)
          ⟨n * 128 + l.val, by omega⟩ := by
  refine turned _ _ _ _ _ _ _ _ _ r _ b n o hn hb ho h l ?_ ?_ ?_ ?_ ?_
  · exact readX m c t r hr
  · exact readP m c t r hr
  · exact readF m c t
  · exact readG m c t
  · exact readW m c t

set_option maxHeartbeats 2000000 in
theorem finalK (c : Dev nD) : (dats m 0 c).arrAt 7 (cfgs 0).N
    = val_main_v80 (F := Ideal) (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 7 _ (by decide +kernel) fun t _ y => ?_
  blk_simp; rw [after0_7]
  obtain ⟨e0, e1, e2, e3, e4, e5, e6, e7, e8⟩ := idx t
  idx_vars y
  have hr : win0_8.index t 0 * 512 + y0.val < 16384 := by
    have := rows t; have := y0.isLt; omega
  have he : (((View.whole main_v24_2).slice (win0_7.rect t)).emb (ix2 y0 y1))
      = ix2 (⟨win0_8.index t 0 * 512 + y0.val, hr⟩ : Fin 16384) y1 := by blk_ext [e7, e8]
  rw [he, k_row]
  frame_out
  canon_tiles x q
  all_goals
    idx_vars x
    obtain rfl : y0 = x0 := Fin.ext q0
  · have hy : y1 = ⟨3 * 128 + x1.val, by clear q0 q1; have := x1.isLt; omega⟩ := Fin.ext (by simpa using q1)
    rw [hy, pay23_eq, pay24_eq, pay29_eq, pay30_eq]
    refine (k3_apply _ _ _ _ _).trans ?_

    exact tile m c t y0 hr 1536 3 1920 (by omega) (by omega) (by omega) rfl x1
  · have hy : y1 = ⟨2 * 128 + x1.val, by clear q0 q1; have := x1.isLt; omega⟩ := Fin.ext (by simpa using q1)
    rw [hy, pay23_eq, pay24_eq, pay29_eq, pay30_eq]
    refine (k2_apply _ _ _ _ _).trans ?_

    exact tile m c t y0 hr 1536 2 1792 (by omega) (by omega) (by omega) rfl x1
  · have hy : y1 = ⟨1 * 128 + x1.val, by clear q0 q1; have := x1.isLt; omega⟩ := Fin.ext (by simpa using q1)
    rw [hy, pay23_eq, pay24_eq, pay29_eq, pay30_eq]
    refine (k1_apply _ _ _ _ _).trans ?_

    exact tile m c t y0 hr 1536 1 1664 (by omega) (by omega) (by omega) rfl x1
  · have hy : y1 = ⟨0 * 128 + x1.val, by clear q0 q1; have := x1.isLt; omega⟩ := Fin.ext (by simpa using q1)
    rw [hy, pay23_eq, pay24_eq, pay25_eq, pay28_eq]
    refine (k0_apply _ _ _ _ _).trans ?_

    exact tile m c t y0 hr 1536 0 1536 (by omega) (by omega) (by omega) rfl x1

set_option maxHeartbeats 2000000 in
theorem finalQ (c : Dev nD) : (dats m 0 c).arrAt 6 (cfgs 0).N
    = val_main_v63 (F := Ideal) (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 6 _ (by decide +kernel) fun t _ y => ?_
  blk_simp; rw [after0_6]
  obtain ⟨e0, e1, e2, e3, e4, e5, e6, e7, e8⟩ := idx t
  idx_vars y
  have hr : win0_8.index t 0 * 512 + y0.val < 16384 := by
    have := rows t; have := y0.isLt; omega
  have he : (((View.whole main_v24_1).slice (win0_6.rect t)).emb (ix2 y0 y1))
      = ix2 (⟨win0_8.index t 0 * 512 + y0.val, hr⟩ : Fin 16384) y1 := by blk_ext [e6, e8]
  rw [he, q_row]
  frame_out
  canon_tiles x q
  all_goals
    idx_vars x
    obtain rfl : y0 = x0 := Fin.ext q0
  · have hy : y1 = ⟨3 * 128 + x1.val, by clear q0 q1; have := x1.isLt; omega⟩ := Fin.ext (by simpa using q1)
    rw [hy, pay23_eq, pay24_eq, pay29_eq, pay30_eq]
    refine (q3_apply _ _ _ _ _).trans ?_
    refine congrArg (· * _) ?_
    exact tile m c t y0 hr 1024 3 1408 (by omega) (by omega) (by omega) rfl x1
  · have hy : y1 = ⟨2 * 128 + x1.val, by clear q0 q1; have := x1.isLt; omega⟩ := Fin.ext (by simpa using q1)
    rw [hy, pay23_eq, pay24_eq, pay29_eq, pay30_eq]
    refine (q2_apply _ _ _ _ _).trans ?_
    refine congrArg (· * _) ?_
    exact tile m c t y0 hr 1024 2 1280 (by omega) (by omega) (by omega) rfl x1
  · have hy : y1 = ⟨1 * 128 + x1.val, by clear q0 q1; have := x1.isLt; omega⟩ := Fin.ext (by simpa using q1)
    rw [hy, pay23_eq, pay24_eq, pay25_eq, pay28_eq]
    refine (q1_apply _ _ _ _ _).trans ?_
    refine congrArg (· * _) ?_
    exact tile m c t y0 hr 1024 1 1152 (by omega) (by omega) (by omega) rfl x1
  · have hy : y1 = ⟨0 * 128 + x1.val, by clear q0 q1; have := x1.isLt; omega⟩ := Fin.ext (by simpa using q1)
    rw [hy, pay23_eq, pay24_eq, pay25_eq, pay28_eq]
    refine (q0_apply _ _ _ _ _).trans ?_
    refine congrArg (· * _) ?_
    exact tile m c t y0 hr 1024 0 1024 (by omega) (by omega) (by omega) rfl x1

end Cert.InProjIdeal.Value

end
-- ==== Proof.Conv.Row.lean ====
/- One position of the causal convolution, as the mathematics says it: 31 taps per channel, the layer norm over the
   channels and the gate. -/
module

public import Idealize.ShloMosaic.PureOps
public import Idealize.ShloMosaic.PureOps.Ideal

@[expose] public section

noncomputable section

namespace Cert.ConvRow

open Idealize.ShloMosaic
open scoped BigOperators

/-- One channel at one position: the 31 inputs that end there against the 31 taps, plus the bias. -/
def taps (x w : Fin 31 → EReal) (b : EReal) : EReal := ∑ j, x j * w j + b

/-- A row minus its mean. -/
def dev (a : Fin 512 → EReal) (l : Fin 512) : EReal := a l - Ideal.div (∑ k, a k) (Ideal.ofBits .f32 0x44000000#32)

/-- The layer norm of a row with its gain and its offset. -/
def layerNorm (a g b : Fin 512 → EReal) (l : Fin 512) : EReal :=
  dev a l * Ideal.rsqrt (Ideal.div (∑ k, dev a k * dev a k) (Ideal.ofBits .f32 0x44000000#32) + Ideal.ofBits .f32 0x358637BD#32)
    * g l + b l

/-- The normed row times its own logistic. -/
def gate (a g b : Fin 512 → EReal) (l : Fin 512) : EReal := layerNorm a g b l * Ideal.logistic (layerNorm a g b l)

end Cert.ConvRow

end
-- ==== Proof.Conv.Kernel.lean ====
/- What one trip of the convolution's kernel computes of 64 positions, entry by entry. -/
module

public import proofs.«01_k».proof.Proof.Gen.ConvIdeal.Skeleton
public import proofs.«01_k».proof.Proof.Conv.Row
public import Idealize.ShloMosaic.Lib.Pointwise

@[expose] public section

set_option maxRecDepth 16384

noncomputable section

namespace Cert.ConvIdeal.Value

open Idealize.ShloMosaic Idealize.ShloMosaic.TcCoe Cert.ConvIdeal Cert.ConvIdeal.Gen
open Cert.ConvRow
open scoped BigOperators

variable (x : FVec Ideal S96x512 .f32) (b : FVec Ideal S1x512 .f32) (w : Fin 31 → FVec Ideal S1x512 .f32)

/-- The taps of all phases, summed in the kernel's order. -/
def summed : FVec Ideal S64x512 .f32 :=
  k0_pay11 x (k0_pay9 x (k0_pay8 x (k0_pay5 x b (w 6) (w 14) (w 22) (w 30) (w 7) (w 15)) (k0_pay6 x) (k0_pay7 (w 23))
      (w 0) (w 8) (w 16) (w 24) (w 1) (w 9) (w 17) (w 25))
    (w 2) (w 10) (w 18) (w 26) (w 3) (w 11) (w 19) (w 27)) (k0_pay10 x)
    (w 4) (w 12) (w 20) (w 28) (w 5) (w 13) (w 21) (w 29)

theorem summed_apply (r : Fin 64) (l : Fin 512) :
    summed x b w (ix2 r l) = taps (fun j => x (ix2 ⟨r.val + j.val + 2, by omega⟩ l)) (fun j => w j (ix2 0 l)) (b (ix2 0 l)) := by
  obtain ⟨q, hq⟩ : ∃ q : ℕ → EReal, ∀ s : Fin 96, x (ix2 s l) = q s.val :=
    ⟨fun n => if h : n < 96 then x (ix2 ⟨n, h⟩ l) else 0, fun s => by simp [s.isLt]⟩
  obtain ⟨v, hv⟩ : ∃ v : ℕ → EReal, ∀ j : Fin 31, w j (ix2 0 l) = v j.val :=
    ⟨fun n => if h : n < 31 then w ⟨n, h⟩ (ix2 0 l) else 0, fun j => by simp [j.isLt]⟩
  simp only [hq, hv]
  obtain ⟨M, hM⟩ : ∃ M : EReal, M = taps (fun j => q (r.val + j.val + 2)) (fun j => v j.val) (b (ix2 0 l)) := ⟨_, rfl⟩
  refine Eq.trans ?_ hM
  pointwise [summed, k0_pay11, k0_pay9, k0_pay8, k0_pay5, k0_pay6, k0_pay7, k0_pay10, k0_pay4, hq, hv]
  rw [hM]
  have e : ∀ i j : ℕ, i + (j + r.val) = (i + j) + r.val := fun i j => by omega
  have e' : ∀ i : ℕ, r.val + i + 2 = (i + 2) + r.val := fun i => by omega
  unfold taps
  rw [Fin.sum_univ_eq_sum_range (fun j => q (r.val + j + 2) * v j) 31]
  simp only [Finset.sum_range_succ, Finset.sum_range_zero, zero_add, e, e', Nat.reduceAdd, Fin.val_ofNat, Nat.reduceMod,
    mul_comm (v _)]
  abel

/-- The layer norm and the gate over the summed taps. -/
theorem gated_apply (a : FVec Ideal S64x512 .f32) (g o : FVec Ideal S1x512 .f32) (r : Fin 64) (l : Fin 512) :
    k0_pay3 (F := Ideal) a (shapeCast S64x1 (multiReduction .add [1] S64 a 0x00000000#32 reduces_S64x512_S64 (.inl rfl) rfl) shapeCasts_S64_S64x1)
        (Scalar.ofBits .f32 0x44000000#32) g o (ix3 0 r l)
      = gate (fun k => a (ix2 r k)) (fun k => g (ix2 0 k)) (fun k => o (ix2 0 k)) l := by
  pointwise [k0_pay3, gate, layerNorm, dev]

end Cert.ConvIdeal.Value

end
-- ==== Proof.Conv.Pieces.lean ====
/- What the convolution's kernel leaves in one batch entry's block: every trip's store holds the target's own entries. -/
module

public import proofs.«01_k».proof.Proof.Gen.ConvIdeal.Frame
public import proofs.«01_k».proof.Proof.Conv.Kernel
public import Idealize.ShloMosaic.Lib.Pipeline.ValueKit

@[expose] public section

set_option maxRecDepth 16384

noncomputable section

namespace Cert.ConvIdeal.Value

open Idealize.ShloMosaic Idealize.ShloMosaic.TcCoe Cert.ConvIdeal Cert.ConvIdeal.Gen
open Cert.ConvRow
open scoped BigOperators

theorem zero2 : (![0, 0] : Fin 2 → Nat) = fun _ => 0 := funext fun a => by fin_cases a <;> rfl

theorem zero3 : (![0, 0, 0] : Fin 3 → Nat) = fun _ => 0 := funext fun a => by fin_cases a <;> rfl

theorem ld_emb {s : Shape} {e : EltTy} (X : s.Idx → Elt Ideal e) (r : Rect s) (x : r.shape.Idx) :
    View.ld (Val := Elt Ideal) (e' := e) X r x = X (r.emb x) := rfl

theorem row_inb (j : Fin 31) : ∀ a, (![j.val, 0] : Fin 2 → Nat) a + S1x512.size a ≤ S31x512.size a := fun a => by
  match a with
  | ⟨0, _⟩ => show j.val + 1 ≤ 31; omega
  | ⟨1, _⟩ => show 0 + 512 ≤ 512; omega

/-- One row of the taps, as the kernel loads it. -/
def row (w : FVec Ideal S31x512 .f32) (j : Fin 31) : FVec Ideal S1x512 .f32 :=
  View.ld (Val := Elt Ideal) (e' := .f32) w (Rect.unit (s := S31x512) ![j.val, 0] S1x512.size (row_inb j))

theorem row_apply (w : FVec Ideal S31x512 .f32) (j : Fin 31) (l : Fin 512) : row w j (ix2 0 l) = w (ix2 j l) := by
  refine (ld_emb (e := .f32) w _ _).trans (congrArg w ?_)
  blk_ext []

section Trip

variable (c : Dev nD) (i : grid0.Coords)
    (a1 : Memref sig .tc .vmem S1x2048x512 .f32) (h1 : a1.IsWhole) (a2 : Memref sig .tc .vmem S31x512 .f32) (h2 : a2.IsWhole)
    (a3 : Memref sig .tc .vmem S1x512 .f32) (h3 : a3.IsWhole) (a4 : Memref sig .tc .vmem S1x512 .f32) (h4 : a4.IsWhole)
    (a5 : Memref sig .tc .vmem S1x512 .f32) (h5 : a5.IsWhole) (a6 : Memref sig .tc .vmem S1x2048x512 .bf16) (h6 : a6.IsWhole)
    (a7 : Memref sig .tc .vmem S2080x512 .f32) (h7 : a7.IsWhole)
    (x0 : Vec Ideal S1x2048x512 .f32) (x1 : Vec Ideal S31x512 .f32) (x2 x3 x4 : Vec Ideal S1x512 .f32)

/-- The summed taps of a trip over the padded rows it reads. -/
def tripSum (p : FVec Ideal S2080x512 .f32) (k : Fin k0_t1_loop.trips) : FVec Ideal S64x512 .f32 :=
  summed (View.ld (Val := Elt Ideal) (e' := .f32) p (Rect.unit (s := S2080x512) (k0_off1 k) S96x512.size (k0_off1_inb k))) x2 (row x1)

theorem trip_eq (X7 : BufTy.Contents (Elt Ideal) a7.view.ty) (k : Fin k0_t1_loop.trips) :
    tripL_k0_t1 (F := Ideal) Variants.none c none i a1 h1 a2 h2 a3 h3 a4 h4 a5 h5 a6 h6 a7 h7
        (h2.unread x1) (h3.unread x2) (h4.unread x3) (h5.unread x4) X7 k
      = [⟨Rect.unit (s := S1x2048x512) (k0_off2 k) S1x64x512.size (k0_off2_inb k),
          k0_pay3 (F := Ideal) (tripSum x1 x2 (a7.view.read (Elt Ideal) X7) k)
            (shapeCast S64x1 (multiReduction .add [1] S64 (tripSum x1 x2 (a7.view.read (Elt Ideal) X7) k) 0x00000000#32
              reduces_S64x512_S64 (.inl rfl) rfl) shapeCasts_S64_S64x1)
            (Scalar.ofBits .f32 0x44000000#32) x3 x4⟩] := by
  unfold tripL_k0_t1 trip_k0_t1
  dsimp only
  sl_unfold_words
  simp only [View.readAt_eq_ld, h2.read_unread, h3.read_unread, h4.read_unread, h5.read_unread, View.ld_unit_zero (S := S1x512) zero2]
  rfl

/-- The padded input of one batch entry: 32 rows of zeros, then the sequence. -/
def padded (y : S2080x512.Idx) : EReal :=
  if h : 32 ≤ (y 0).val then x0 (ix3 0 ⟨(y 0).val - 32, by have := (y 0).isLt; simp at this; omega⟩ (y 1)) else 0

/-- What the whole block holds. -/
def target (y : S1x2048x512.Idx) : EReal :=
  gate (fun k => taps (fun j => padded x0 (ix2 ⟨(y 1).val + j.val + 2, by have := (y 1).isLt; simp at this; omega⟩ k)) (fun j => x1 (ix2 j k)) (x2 (ix2 0 k)))
    (fun k => x3 (ix2 0 k)) (fun k => x4 (ix2 0 k)) (y 2)

theorem off1 : ∀ k : Fin k0_t1_loop.trips, k0_off1 k = ![64 * k.val, 0] := by decide +kernel
theorem off2 : ∀ k : Fin k0_t1_loop.trips, k0_off2 k = ![0, 64 * k.val, 0] := by decide +kernel
theorem trips_lt : ∀ k : Fin k0_t1_loop.trips, k.val < 32 := by decide +kernel

theorem trip_target (k : Fin k0_t1_loop.trips) (r : Fin 64) (l : Fin 512) :
    k0_pay3 (F := Ideal) (tripSum x1 x2 (padded x0) k)
            (shapeCast S64x1 (multiReduction .add [1] S64 (tripSum x1 x2 (padded x0) k) 0x00000000#32
              reduces_S64x512_S64 (.inl rfl) rfl) shapeCasts_S64_S64x1)
            (Scalar.ofBits .f32 0x44000000#32) x3 x4 (ix3 0 r l)
      = target x0 x1 x2 x3 x4 (ix3 0 ⟨64 * k.val + r.val, by have := trips_lt k; omega⟩ l) := by
  refine (gated_apply _ _ _ r l).trans ?_
  unfold target
  refine congrArg (fun a => gate a _ _ _) (funext fun k' => ?_)
  unfold tripSum
  rw [summed_apply]
  refine congr (congrArg (fun a => taps a) (funext fun j => ?_)) (funext fun j => ?_) |> fun h => congrFun h _
  · refine (ld_emb (e := .f32) (padded x0) _ _).trans (congrArg (padded x0) ?_)
    blk_ext [off1]
  · exact row_apply x1 j k'

/-- The scratch after both stores is the padded input. -/
theorem scratch_eq : a7.view.read (Elt Ideal) (a7.view.writes (Elt Ideal) a7.view.junk (kernelRun0_A.sl.HS0_2 (F := Ideal) c a1 h1 x0))
    = padded x0 := by
  funext y
  rw [View.read_writes_junk_apply_eq_canon]
  refine View.canon_apply_of_pieces (Val := Elt Ideal) (e := .f32) (padded x0) _ ?_ y ?_
  · unfold kernelRun0_A.sl.HS0_2
    sl_unfold_words
    simp only [List.mem_cons, List.not_mem_nil, or_false, View.readAt_eq_ld, h1.read_unread, View.ld_unit_zero (S := S1x2048x512) zero3]
    rintro p (rfl | rfl) z
    · dsimp only
      idx_vars z
      have he : (Rect.unit (s := S2080x512) ![32, 0] S2048x512.size inb_S2080x512_S2048x512_32_0).emb (ix2 z0 z1)
          = ix2 ⟨z0.val + 32, by omega⟩ z1 := by blk_ext []
      refine Eq.trans ?_ (congrArg (padded x0) he.symm)
      pointwise [k0_pay2, padded]
      exact congrArg (fun t => x0 (ix3 0 t z1)) (Fin.ext (by simp))
    · dsimp only
      idx_vars z
      have he : (Rect.unit (s := S2080x512) ![0, 0] S32x512.size inb_S2080x512_S32x512_0_0).emb (ix2 z0 z1)
          = ix2 ⟨z0.val, by omega⟩ z1 := by blk_ext []
      refine Eq.trans ?_ (congrArg (padded x0) he.symm)
      pointwise [k0_pay1, padded]
  · unfold kernelRun0_A.sl.HS0_2
    sl_unfold_words
    idx_vars y
    by_cases hy : 32 ≤ y0.val
    · refine ⟨_, List.mem_cons_self, ?_⟩
      rw [Rect.mem_set_unit]
      intro a
      match a with
      | ⟨0, _⟩ => show 32 ≤ y0.val ∧ y0.val < 32 + 2048; omega
      | ⟨1, _⟩ => show 0 ≤ y1.val ∧ y1.val < 0 + 512; omega
    · refine ⟨_, List.mem_cons_of_mem _ List.mem_cons_self, ?_⟩
      rw [Rect.mem_set_unit]
      intro a
      match a with
      | ⟨0, _⟩ => show 0 ≤ y0.val ∧ y0.val < 0 + 32; omega
      | ⟨1, _⟩ => show 0 ≤ y1.val ∧ y1.val < 0 + 512; omega

theorem out_apply (y : S1x2048x512.Idx) :
    out0_A_5 c i a1 h1 a2 h2 a3 h3 a4 h4 a5 h5 a6 h6 a7 h7 x0 x1 x2 x3 x4 y = target x0 x1 x2 x3 x4 y := by
  unfold out0_A_5
  rw [View.read_writes_eq_canon _ _ _ (cover0_A_5 c i a1 h1 a2 h2 a3 h3 a4 h4 a5 h5 a6 h6 a7 h7 x0 x1 x2 x3 x4)]
  refine View.canon_apply_of_pieces (target x0 x1 x2 x3 x4) _ ?_ y (cover0_A_5 c i a1 h1 a2 h2 a3 h3 a4 h4 a5 h5 a6 h6 a7 h7 x0 x1 x2 x3 x4 y)
  unfold kernelRun0_A
  dsimp only
  generalize hX : a7.view.writes (Elt Ideal) a7.view.junk _ = X7
  have hr : a7.view.read (Elt Ideal) X7 = padded x0 := by rw [← hX]; exact scratch_eq c a1 h1 a7 x0
  suffices h : ∀ n : ℕ, n ≤ k0_t1_loop.trips → ∀ p ∈ pb_k0_t1 (F := Ideal) Variants.none c none i a1 h1 a2 h2 a3 h3 a4 h4 a5 h5 a6 h6 a7 h7
      (h2.unread x1) (h3.unread x2) (h4.unread x3) (h5.unread x4) X7 n, ∀ x, p.2 x = target x0 x1 x2 x3 x4 (p.1.emb x) from
    h _ le_rfl
  intro n
  induction n with
  | zero => intro _ p hp; unfold pb_k0_t1 at hp; simp at hp
  | succ n ih =>
    intro hn p hp
    rw [pb_k0_t1_succ (F := Ideal) Variants.none c none i a1 h1 a2 h2 a3 h3 a4 h4 a5 h5 a6 h6 a7 h7 _ _ _ _ X7 ⟨n, hn⟩, trip_eq,
      List.mem_append, List.mem_singleton] at hp
    rcases hp with rfl | hp
    · intro z
      dsimp only
      rw [hr]
      idx_vars z
      have he : (Rect.unit (s := S1x2048x512) (k0_off2 ⟨n, hn⟩) S1x64x512.size (k0_off2_inb ⟨n, hn⟩)).emb (ix3 z0 z1 z2)
          = ix3 0 ⟨64 * n + z1.val, by have := trips_lt ⟨n, hn⟩; dsimp only at this; omega⟩ z2 := by blk_ext [off2]
      refine Eq.trans ?_ (congrArg (target x0 x1 x2 x3 x4) he.symm)
      rw [show z0 = 0 from Subsingleton.elim _ _]
      exact trip_target x0 x1 x2 x3 x4 ⟨n, hn⟩ z1 z2
    · exact ih (by omega) p hp

end Trip

end Cert.ConvIdeal.Value

end
-- ==== Proof.Conv.Ref.lean ====
/- What the convolution's reference holds, entry by entry. -/
module

public import proofs.«01_k».proof.Proof.Gen.ConvRefIdeal.Read
public import proofs.«01_k».proof.Proof.Conv.Row
public import Idealize.ShloMosaic.Lib.Pointwise

@[expose] public section

set_option maxRecDepth 16384

noncomputable section

namespace Cert.ConvRefIdeal.Row

open Idealize.ShloMosaic Idealize.ShloMosaic.TcCoe Cert.ConvRefIdeal
open Cert.ConvRow Cert.ConvRefIdeal.Read

variable (U : FVec Ideal S8x2048x512 .f32) (W : FVec Ideal S31x512 .f32) (B G C : FVec Ideal S1x512 .f32)

/-- The gate and the layer norm over the convolved row. -/
theorem gate_apply (n : Fin 8) (t : Fin 2048) (l : Fin 512) :
    val_main_v247 (F := Ideal) U W B G C (ix3 n t l)
      = gate (fun k => val_main_v221 (F := Ideal) U W B (ix3 n t k)) (fun k => G (ix2 0 k)) (fun k => C (ix2 0 k)) l := by
  generalize hz : val_main_v221 (F := Ideal) U W B = z
  pointwise [val_main_v247, val_main_v246, val_main_call1_v5, val_main_call1_v4, val_main_call1_v3, val_main_call1_v2, val_main_call1_v1,
    val_main_call1_v0, val_main_call1_cst, val_main_call1_cst_0,
    val_main_v245, val_main_v244, val_main_v243, val_main_v242, val_main_v241, val_main_v240, val_main_v239, val_main_v238, val_main_v237,
    val_main_v236, val_main_v235, val_main_v234, val_main_v233, val_main_v232, val_main_v231, val_main_v230, val_main_v229, val_main_v228,
    val_main_v227, val_main_v226, val_main_v225, val_main_v224, val_main_v223, val_main_v222,
    val_main_cst_0, val_main_cst_1, val_main_cst_2, val_main_cst_3, val_main_cst_4, hz, gate, layerNorm, dev, Ideal.logistic]

/-- The convolved row: 31 taps of the padded input. -/
theorem taps_apply (n : Fin 8) (t : Fin 2048) (l : Fin 512) :
    val_main_v221 (F := Ideal) U W B (ix3 n t l)
      = taps (fun j => val_main_v0 (F := Ideal) U (ix3 n ⟨t.val + j.val, by omega⟩ l)) (fun j => W (ix2 j l)) (B (ix2 0 l)) := by
  generalize hz : val_main_v0 (F := Ideal) U = z
  obtain ⟨q, hq⟩ : ∃ q : ℕ → EReal, ∀ s : Fin 2078, z (ix3 n s l) = q s.val :=
    ⟨fun k => if h : k < 2078 then z (ix3 n ⟨k, h⟩ l) else 0, fun s => by simp [s.isLt]⟩
  obtain ⟨v, hv⟩ : ∃ v : ℕ → EReal, ∀ j : Fin 31, W (ix2 j l) = v j.val :=
    ⟨fun k => if h : k < 31 then W (ix2 ⟨k, h⟩ l) else 0, fun j => by simp [j.isLt]⟩
  simp only [hq, hv]
  obtain ⟨M, hM⟩ : ∃ M : EReal, M = taps (fun j => q (t.val + j.val)) (fun j => v j.val) (B (ix2 0 l)) := ⟨_, rfl⟩
  refine Eq.trans ?_ hM
  pointwise [
    val_main_v221, val_main_v220, val_main_v219, val_main_v218, val_main_v217, val_main_v216, val_main_v215, val_main_v214, val_main_v213,
    val_main_v212, val_main_v211, val_main_v210, val_main_v209, val_main_v208, val_main_v207, val_main_v206, val_main_v205, val_main_v204,
    val_main_v203, val_main_v202, val_main_v201, val_main_v200, val_main_v199, val_main_v198, val_main_v197, val_main_v196, val_main_v195,
    val_main_v194, val_main_v193, val_main_v192, val_main_v191, val_main_v190, val_main_v189, val_main_v188, val_main_v187, val_main_v186,
    val_main_v185, val_main_v184, val_main_v183, val_main_v182, val_main_v181, val_main_v180, val_main_v179, val_main_v178, val_main_v177,
    val_main_v176, val_main_v175, val_main_v174, val_main_v173, val_main_v172, val_main_v171, val_main_v170, val_main_v169, val_main_v168,
    val_main_v167, val_main_v166, val_main_v165, val_main_v164, val_main_v163, val_main_v162, val_main_v161, val_main_v160, val_main_v159,
    val_main_v158, val_main_v157, val_main_v156, val_main_v155, val_main_v154, val_main_v153, val_main_v152, val_main_v151, val_main_v150,
    val_main_v149, val_main_v148, val_main_v147, val_main_v146, val_main_v145, val_main_v144, val_main_v143, val_main_v142, val_main_v141,
    val_main_v140, val_main_v139, val_main_v138, val_main_v137, val_main_v136, val_main_v135, val_main_v134, val_main_v133, val_main_v132,
    val_main_v131, val_main_v130, val_main_v129, val_main_v128, val_main_v127, val_main_v126, val_main_v125, val_main_v124, val_main_v123,
    val_main_v122, val_main_v121, val_main_v120, val_main_v119, val_main_v118, val_main_v117, val_main_v116, val_main_v115, val_main_v114,
    val_main_v113, val_main_v112, val_main_v111, val_main_v110, val_main_v109, val_main_v108, val_main_v107, val_main_v106, val_main_v105,
    val_main_v104, val_main_v103, val_main_v102, val_main_v101, val_main_v100, val_main_v99, val_main_v98, val_main_v97, val_main_v96, val_main_v95,
    val_main_v94, val_main_v93, val_main_v92, val_main_v91, val_main_v90, val_main_v89, val_main_v88, val_main_v87, val_main_v86, val_main_v85,
    val_main_v84, val_main_v83, val_main_v82, val_main_v81, val_main_v80, val_main_v79, val_main_v78, val_main_v77, val_main_v76, val_main_v75,
    val_main_v74, val_main_v73, val_main_v72, val_main_v71, val_main_v70, val_main_v69, val_main_v68, val_main_v67, val_main_v66, val_main_v65,
    val_main_v64, val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_cst, hz, hq, hv]
  rw [hM]
  unfold taps
  rw [Fin.sum_univ_eq_sum_range (fun j => q (t.val + j) * v j) 31]
  simp only [Finset.sum_range_succ, Finset.sum_range_zero, zero_add, Nat.add_zero, Nat.add_comm t.val]

/-- The padded input: nothing before the sequence, then the sequence 30 places later. -/
theorem padded_apply (n : Fin 8) (s : Fin 2078) (l : Fin 512) :
    val_main_v0 (F := Ideal) U (ix3 n s l) = if h : 30 ≤ s.val then U (ix3 n ⟨s.val - 30, by omega⟩ l) else 0 := by
  obtain ⟨M, hM⟩ : ∃ M : EReal, M = if h : 30 ≤ s.val then U (ix3 n ⟨s.val - 30, by omega⟩ l) else 0 := ⟨_, rfl⟩
  refine Eq.trans ?_ hM
  pointwise [val_main_v0, val_main_call0_v0, val_main_c]
  rw [hM]
  have hz : (FloatOps.sitofp (F := Ideal) .f32 0#32 : EReal) = 0 := by
    simp [FloatOps.sitofp]
  by_cases h : 30 ≤ s.val
  · rw [dif_pos ⟨h, by omega⟩, dif_pos h]
  · rw [dif_neg (fun h' => h h'.1), dif_neg h]
    exact hz

end Cert.ConvRefIdeal.Row

end
-- ==== Proof.Conv.Value.lean ====
/- What the convolution's output array holds after the run: the reference's result of the arguments. -/
module

public import proofs.«01_k».proof.Proof.Conv.Pieces
public import proofs.«01_k».proof.Proof.Conv.Ref
public import Idealize.ShloMosaic.Lib.Pipeline.ValueKit

@[expose] public section

set_option maxRecDepth 16384

noncomputable section

namespace Cert.ConvIdeal.Value

open Idealize.ShloMosaic Idealize.ShloMosaic.TcCoe Idealize.SL.Sem Cert.ConvIdeal Cert.ConvIdeal.Gen
open Cert.ConvRow Cert.ConvRefIdeal.Read Cert.ConvRefIdeal.Row

variable (m : (ℓ : Loc nD τ sig) → Buf (Elt Ideal) ℓ)

/-! ## One block, when each block read is the array's -/

section Point

variable (x0 : Vec Ideal S1x2048x512 .f32) (x1 : Vec Ideal S31x512 .f32) (x2 x3 x4 : Vec Ideal S1x512 .f32)
  (U : FVec Ideal S8x2048x512 .f32) (W : FVec Ideal S31x512 .f32) (B G C : FVec Ideal S1x512 .f32) (n : Fin 8)

/-- The kernel pads by 32 rows and starts at the third; the reference pads by 30. -/
theorem padded_ref (s : ℕ) (hs : s + 2 < 2080) (hs' : s < 2078) (l : Fin 512)
    (h0 : ∀ (t : Fin 2048) (l : Fin 512), x0 (ix3 0 t l) = U (ix3 n t l)) :
    padded x0 (ix2 ⟨s + 2, hs⟩ l) = val_main_v0 (F := Ideal) U (ix3 n ⟨s, hs'⟩ l) := by
  rw [padded_apply]
  by_cases h : 30 ≤ s
  · refine (dif_pos (show 32 ≤ s + 2 by omega)).trans (Eq.trans ?_ (dif_pos h).symm)
    exact (h0 _ _).trans (congrArg (fun t => U (ix3 n t l)) (Fin.ext (show s + 2 - 32 = s - 30 by omega)))
  · refine (dif_neg (show ¬ 32 ≤ s + 2 by omega)).trans (Eq.symm ?_)
    exact dif_neg h

theorem target_ref (t : Fin 2048) (l : Fin 512) (h0 : ∀ (t : Fin 2048) (l : Fin 512), x0 (ix3 0 t l) = U (ix3 n t l))
    (h1 : ∀ (j : Fin 31) (l : Fin 512), x1 (ix2 j l) = W (ix2 j l)) (h2 : ∀ l : Fin 512, x2 (ix2 0 l) = B (ix2 0 l))
    (h3 : ∀ l : Fin 512, x3 (ix2 0 l) = G (ix2 0 l)) (h4 : ∀ l : Fin 512, x4 (ix2 0 l) = C (ix2 0 l)) :
    target x0 x1 x2 x3 x4 (ix3 0 t l) = val_main_v247 (F := Ideal) U W B G C (ix3 n t l) := by
  rw [gate_apply]
  simp only [taps_apply, ← h1, ← h2, ← h3, ← h4]
  unfold target
  refine congrArg (fun a => gate a _ _ _) (funext fun k => ?_)
  refine congrArg (fun a => taps a _ _) (funext fun j => ?_)
  exact padded_ref x0 U n (t.val + j.val) (by omega) (by omega) k h0

end Point

theorem idx : ∀ t : Fin cfg0.N, win0_0.index t = win0_5.index t ∧ win0_1.index t = ![0, 0] ∧ win0_2.index t = ![0, 0]
    ∧ win0_3.index t = ![0, 0] ∧ win0_4.index t = ![0, 0] ∧ win0_5.index t 1 = 0 ∧ win0_5.index t 2 = 0 :=
  (by decide +kernel : ∀ t : Fin grid0.N, _)

theorem batch : ∀ t : Fin cfg0.N, win0_5.index t 0 < 8 := (by decide +kernel : ∀ t : Fin grid0.N, _)

/-! ## The block reads of a grid point -/

section Reads

variable (c : Dev nD) (t : Fin cfg0.N)

theorem readU (s : Fin 2048) (l : Fin 512) : iblk m c 0 t (ix3 0 s l)
    = m ((c.tc : Thread nD τ).loc main_arg0) (ix3 (⟨win0_5.index t 0, batch t⟩ : Fin 8) s l) := by
  obtain ⟨e0, e1, e2, e3, e4, e5, e6⟩ := idx t
  rw [← V_main_arg0 m c]
  blk_ext [iblk, e0, e5, e6]

theorem readW (j : Fin 31) (l : Fin 512) : iblk m c 1 t (ix2 j l) = m ((c.tc : Thread nD τ).loc main_arg1) (ix2 j l) := by
  obtain ⟨e0, e1, e2, e3, e4, e5, e6⟩ := idx t
  rw [← V_main_arg1 m c]
  blk_ext [iblk, e1]

theorem readB (l : Fin 512) : iblk m c 2 t (ix2 0 l) = m ((c.tc : Thread nD τ).loc main_arg2) (ix2 0 l) := by
  obtain ⟨e0, e1, e2, e3, e4, e5, e6⟩ := idx t
  rw [← V_main_arg2 m c]
  blk_ext [iblk, e2]

theorem readG (l : Fin 512) : iblk m c 3 t (ix2 0 l) = m ((c.tc : Thread nD τ).loc main_arg3) (ix2 0 l) := by
  obtain ⟨e0, e1, e2, e3, e4, e5, e6⟩ := idx t
  rw [← V_main_arg3 m c]
  blk_ext [iblk, e3]

theorem readC (l : Fin 512) : iblk m c 4 t (ix2 0 l) = m ((c.tc : Thread nD τ).loc main_arg4) (ix2 0 l) := by
  obtain ⟨e0, e1, e2, e3, e4, e5, e6⟩ := idx t
  rw [← V_main_arg4 m c]
  blk_ext [iblk, e4]

end Reads

/-! ## The array -/

theorem final (c : Dev nD) : (dats m 0 c).arrAt 5 (cfgs 0).N
    = val_main_v247 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (dats m 0 c).arrAt_eq_of_covers 5 _ (by decide +kernel) fun t _ y => ?_
  blk_simp; rw [after0_5]
  obtain ⟨e0, e1, e2, e3, e4, e5, e6⟩ := idx t
  idx_vars y
  have he : (((View.whole main_v0).slice (win0_5.rect t)).emb (ix3 y0 y1 y2))
      = ix3 (⟨win0_5.index t 0, batch t⟩ : Fin 8) y1 y2 := by blk_ext [e5, e6]
  rw [he, show y0 = 0 from Subsingleton.elim _ _]
  unfold outsAt0
  rw [out_apply]
  exact target_ref _ _ _ _ _ _ _ _ _ _ _ y1 y2 (readU m c t) (readW m c t) (readB m c t) (readG m c t) (readC m c t)

end Cert.ConvIdeal.Value

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.TailRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Pre_finite_qk
public import proofs.«01_k».proof.Proof.Attn.Finite
public import proofs.«01_k».proof.Proof.Tail.Value
public import proofs.«01_k».proof.Proof.InProj.Value
public import proofs.«01_k».proof.Proof.Conv.Value
public import Idealize.ShloMosaic.Lib.Claim
public import Idealize.ShloMosaic.Adequacy
public import Idealize.ShloMosaic.Init

@[expose] public section

noncomputable section

namespace Cert.Proof

open Idealize.ShloMosaic Idealize.SL.Sem

set_option maxHeartbeats 2000000 in
/-- The idealized tail ends with the reference's result. -/
theorem algebraic_tail : Cert.algebraic_TailIdeal_TailRefIdeal := by
  pair_intro
  · run_from Cert.TailIdeal.Gen.run_main m g
  · refine θ_run_mono (Cert.TailRefIdeal.Row.run m' g') fun r h c => ?_
    obtain ⟨e0, e1, e2, e3, e4, e5, e6, e7, e8, e9, e10, e11⟩ := hagree c
    refine ⟨(h c).1.trans ?_, (h c).2⟩
    rw [e0, e1, e2, e3, e4, e5, e6, e7, e8, e9, e10, e11]
    exact (Cert.TailIdeal.Value.final m c).symm

theorem frame_tail_ref : Cert.quiescent_TailRefIdeal := fun m g _ =>
  θ_run_mono (Cert.TailRefIdeal.Row.run m g) fun r h => ⟨fun c => (h c).2, Cert.TailRefIdeal.Row.counters r.2.sem⟩

set_option maxHeartbeats 2000000 in
/-- The idealized input projection ends with the reference's four results. -/
theorem algebraic_inproj : Cert.algebraic_InProjIdeal_InProjRefIdeal := by
  pair_intro
  · run_from Cert.InProjIdeal.Gen.run_main m g
  · refine θ_run_mono (Cert.InProjRefIdeal.Value.run m' g') fun r h c => ?_
    obtain ⟨e0, e1, e2, e3⟩ := hagree c
    obtain ⟨h0, h1, h2, h3, hk⟩ := h c
    refine ⟨h0.trans ?_, h1.trans ?_, h2.trans ?_, h3.trans ?_, hk⟩
    · rw [Cert.InProjRefIdeal.Read.val_main_v44_eq, e0, e2, e3]
      exact (Cert.InProjIdeal.Value.finalU m c).symm
    · rw [Cert.InProjRefIdeal.Read.val_main_v63_eq, e0, e1, e2, e3]
      exact (Cert.InProjIdeal.Value.finalQ m c).symm
    · rw [Cert.InProjRefIdeal.Read.val_main_v80_eq, e0, e1, e2, e3]
      exact (Cert.InProjIdeal.Value.finalK m c).symm
    · rw [Cert.InProjRefIdeal.Read.val_main_v81_eq, e0, e2, e3]
      exact (Cert.InProjIdeal.Value.finalV m c).symm

theorem counters_inproj (x : GSem Cert.InProjRefIdeal.nD Cert.InProjRefIdeal.τ Cert.InProjRefIdeal.sig → ℤ) : x = fun _ => 0 := by
  funext s
  obtain ⟨_, s⟩ := s
  rcases s with i | i <;> exact i.elim0

theorem frame_inproj_ref : Cert.quiescent_InProjRefIdeal := fun m g _ =>
  θ_run_mono (Cert.InProjRefIdeal.Value.run m g) fun r h => ⟨fun c => (h c).2.2.2.2, counters_inproj r.2.sem⟩

theorem counters_attn (x : GSem Cert.AttnRefIdeal.nD Cert.AttnRefIdeal.τ Cert.AttnRefIdeal.sig → ℤ) : x = fun _ => 0 := by
  funext s
  obtain ⟨_, s⟩ := s
  rcases s with i | i <;> exact i.elim0

theorem frame_attn_ref : Cert.quiescent_AttnRefIdeal := fun m g _ =>
  θ_run_mono (Cert.AttnRefIdeal.Value.run m g) fun r h => ⟨fun c => (h c).2, counters_attn r.2.sem⟩

set_option maxHeartbeats 2000000 in
/-- The idealized attention ends with the reference's result, where queries and keys are finite. -/
theorem algebraic_attn : Cert.algebraic_AttnIdeal_AttnRefIdeal_pre_finite_qk := by
  pair_intro
  · run_from Cert.AttnIdeal.Gen.run_main m g
  · refine θ_run_mono (Cert.AttnRefIdeal.Value.run m' g') fun r h c => ?_
    obtain ⟨e0, e1, e2⟩ := hagree c
    obtain ⟨a0, a1⟩ := Cert.AttnIdeal.Value.finite _ _ _ (hpre c)
    refine ⟨(h c).1.trans ?_, (h c).2⟩
    rw [Cert.AttnRefIdeal.Read.val_main_v114_eq, e0, e1, e2]
    exact (Cert.AttnIdeal.Value.final m c a0 a1).symm

/-- The one named constant stands for −∞ on both sides. -/
theorem preserves_attn : Cert.preserves_Attn_AttnIdeal :=
  IdealRules.named_const.statement Cert.AttnIdeal.κ "neg" .f32 0xFF7F0000#32 ⊥ rfl

set_option maxHeartbeats 2000000 in
/-- The idealized convolution ends with the reference's result. -/
theorem algebraic_conv : Cert.algebraic_ConvIdeal_ConvRefIdeal := by
  pair_intro
  · run_from Cert.ConvIdeal.Gen.run_main m g
  · refine θ_run_mono (Cert.ConvRefIdeal.Value.run m' g') fun r h c => ?_
    obtain ⟨e0, e1, e2, e3, e4⟩ := hagree c
    refine ⟨(h c).1.trans ?_, (h c).2⟩
    rw [Cert.ConvRefIdeal.Read.val_main_v247_eq]
    exact (congr (congr (congr (congr (congrArg (Cert.ConvRefIdeal.Read.val_main_v247 (F := Ideal)) e0) e1) e2) e3) e4).trans
      (Cert.ConvIdeal.Value.final m c).symm

theorem counters_conv (x : GSem Cert.ConvRefIdeal.nD Cert.ConvRefIdeal.τ Cert.ConvRefIdeal.sig → ℤ) : x = fun _ => 0 := by
  funext s
  obtain ⟨_, s⟩ := s
  rcases s with i | i <;> exact i.elim0

theorem frame_conv_ref : Cert.quiescent_ConvRefIdeal := fun m g _ =>
  θ_run_mono (Cert.ConvRefIdeal.Value.run m g) fun r h => ⟨fun c => (h c).2, counters_conv r.2.sem⟩

theorem claim : Cert.Claim :=
  ⟨Cert.Attn.Gen.facts, Cert.AttnIdeal.Gen.facts, Cert.AttnRefIdeal.Gen.facts, Cert.Tail.Gen.facts, Cert.TailIdeal.Gen.facts, Cert.TailRefIdeal.Gen.facts,
    Cert.InProj.Gen.facts, Cert.InProjIdeal.Gen.facts, Cert.InProjRefIdeal.Gen.facts,
    Cert.Conv.Gen.facts, Cert.ConvIdeal.Gen.facts, Cert.ConvRefIdeal.Gen.facts, Cert.Pre_finite_qk.Gen.facts,
    fun m g _ => Cert.Attn.Gen.frame m g, fun m g _ => Cert.AttnIdeal.Gen.frame m g, fun m g _ => Cert.AttnIdeal.Gen.frame m g,
    frame_attn_ref, fun m g _ => frame_attn_ref m g trivial,
    fun m g _ => Cert.Tail.Gen.frame m g, fun m g _ => Cert.TailIdeal.Gen.frame m g, frame_tail_ref,
    fun m g _ => Cert.InProj.Gen.frame m g, fun m g _ => Cert.InProjIdeal.Gen.frame m g, frame_inproj_ref,
    fun m g _ => Cert.Conv.Gen.frame m g, fun m g _ => Cert.ConvIdeal.Gen.frame m g, frame_conv_ref,
    preserves_attn, algebraic_attn, trivial, algebraic_tail, trivial, algebraic_inproj, trivial, algebraic_conv⟩

end Cert.Proof

end
